-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_starts_nonneg [hPre_starts_nonneg : Cert.Pre_starts_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_starts_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_starts_nonneg [hPre_starts_nonneg : Cert.Pre_starts_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_starts_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_starts_nonneg [hKernelIdeal : Cert.KernelIdeal.Facts] [hPre_starts_nonneg : Cert.Pre_starts_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_starts_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_starts_nonneg [hReferenceIdeal : Cert.ReferenceIdeal.Facts] [hPre_starts_nonneg : Cert.Pre_starts_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_starts_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_starts_nonneg [hKernelIdeal : Cert.KernelIdeal.Facts] [hReferenceIdeal : Cert.ReferenceIdeal.Facts] [hPre_starts_nonneg : Cert.Pre_starts_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_starts_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v8_2)) (v4 : (c : Dev Cert.KernelIdeal.nD) → Buf (Elt Ideal) ((c.tc : Thread Cert.KernelIdeal.nD Cert.KernelIdeal.τ).loc Cert.KernelIdeal.main_v8_3)) (v5 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v8_2) = v3 c
          ∧ r.2.mem ((c.tc : Thread Cert.KernelIdeal.nD Cert.KernelIdeal.τ).loc Cert.KernelIdeal.main_v8_3) = v4 c
          ∧ r.2.mem ((c.tc : Thread Cert.KernelIdeal.nD Cert.KernelIdeal.τ).loc Cert.KernelIdeal.main_v10) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_v69) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_starts_nonneg : Cert.Pre_starts_nonneg.Facts),
    quiescent_Kernel (hKernel := hKernel)
    ∧ quiescent_KernelIdeal (hKernelIdeal := hKernelIdeal)
    ∧ quiescent_KernelIdeal_pre_starts_nonneg (hKernelIdeal := hKernelIdeal) (hPre_starts_nonneg := hPre_starts_nonneg)
    ∧ quiescent_ReferenceIdeal (hReferenceIdeal := hReferenceIdeal)
    ∧ quiescent_ReferenceIdeal_pre_starts_nonneg (hReferenceIdeal := hReferenceIdeal) (hPre_starts_nonneg := hPre_starts_nonneg)
    ∧ preserves_Kernel_KernelIdeal
    ∧ algebraic_KernelIdeal_ReferenceIdeal_pre_starts_nonneg (hKernelIdeal := hKernelIdeal) (hReferenceIdeal := hReferenceIdeal) (hPre_starts_nonneg := hPre_starts_nonneg)
-- ==== Pre_starts_nonneg.lean ====
abbrev S2048 : Shape := ⟨1, ![2048]⟩
abbrev S_ : Shape := ⟨0, ![]⟩
abbrev S32768 : Shape := ⟨1, ![32768]⟩

class Facts : Prop where

variable [Facts]

def fn {F : FTy → Type} [FloatOps F] (main_arg0 : IVec S2048 32) (main_arg1 : IVec S2048 32) (main_arg2 : IVec S_ 32) (main_arg3 : IVec S32768 32) (main_arg4 : IVec S32768 32) (main_arg5 : IVec S_ 32) (main_arg6 : IVec S32768 32) (main_arg7 : IVec S32768 32) (main_arg8 : IVec S_ 32) : IVec S_ 1 :=
  let main_c : IVec S_ 32 := constantI S_ 32 0#32
  let main_v0 : IVec S_ 1 := cmpi .sge main_arg5 main_c
  let main_c_0 : IVec S_ 32 := constantI S_ 32 0#32
  let main_v1 : IVec S_ 1 := cmpi .sge main_arg8 main_c_0
  let main_v2 : IVec S_ 1 := andi main_v0 main_v1
  main_v2
-- ==== Kernel.lean ====
abbrev S2048 : Shape := ⟨1, ![2048]⟩
abbrev S_ : Shape := ⟨0, ![]⟩
abbrev S32768 : Shape := ⟨1, ![32768]⟩
abbrev S16 : Shape := ⟨1, ![16]⟩
abbrev S1 : Shape := ⟨1, ![1]⟩
abbrev S1024 : Shape := ⟨1, ![1024]⟩
abbrev S2 : Shape := ⟨1, ![2]⟩
abbrev S4 : Shape := ⟨1, ![4]⟩

abbrev nBuf : Table → Nat
  | .hbm => 28
  | .local .scVector .vmem => 7
  | _ => 0

abbrev bufTy : (tb : Table) → Fin (nBuf tb) → BufTy
  | .hbm, ⟨0, _⟩ => ⟨S2048, .i32⟩
  | .hbm, ⟨1, _⟩ => ⟨S2048, .i32⟩
  | .hbm, ⟨2, _⟩ => ⟨S_, .i32⟩
  | .hbm, ⟨3, _⟩ => ⟨S32768, .i32⟩
  | .hbm, ⟨4, _⟩ => ⟨S32768, .i32⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S_, .i32⟩
  | .hbm, ⟨14, _⟩ => ⟨S1, .i32⟩
  | .hbm, ⟨15, _⟩ => ⟨S16, .i32⟩
  | .hbm, ⟨16, _⟩ => ⟨S_, .i32⟩
  | .hbm, ⟨17, _⟩ => ⟨S1, .i32⟩
  | .hbm, ⟨18, _⟩ => ⟨S16, .i32⟩
  | .hbm, ⟨19, _⟩ => ⟨S_, .i32⟩
  | .hbm, ⟨20, _⟩ => ⟨S1, .i32⟩
  | .hbm, ⟨21, _⟩ => ⟨S16, .i32⟩
  | .hbm, ⟨22, _⟩ => ⟨S32768, .i32⟩
  | .hbm, ⟨23, _⟩ => ⟨S32768, .i32⟩
  | .hbm, ⟨24, _⟩ => ⟨S32768, .i32⟩
  | .hbm, ⟨25, _⟩ => ⟨S32768, .i32⟩
  | .hbm, ⟨26, _⟩ => ⟨S_, .i32⟩
  | .hbm, ⟨27, _⟩ => ⟨S_, .i32⟩
  | .local .scVector .vmem, ⟨0, _⟩ => ⟨S16, .i32⟩
  | .local .scVector .vmem, ⟨1, _⟩ => ⟨S2048, .i32⟩
  | .local .scVector .vmem, ⟨2, _⟩ => ⟨S2048, .i32⟩
  | .local .scVector .vmem, ⟨3, _⟩ => ⟨S1024, .i32⟩
  | .local .scVector .vmem, ⟨4, _⟩ => ⟨S1024, .i32⟩
  | .local .scVector .vmem, ⟨5, _⟩ => ⟨S1024, .i32⟩
  | .local .scVector .vmem, ⟨6, _⟩ => ⟨S1024, .i32⟩
  | _, _ => ⟨S2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_c_0 : Ref sig .tc := ⟨.hbm, 11, rfl⟩
abbrev main_v1 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v9 : Ref sig .tc := ⟨.hbm, 26, rfl⟩
abbrev main_v10 : Ref sig .tc := ⟨.hbm, 27, rfl⟩
abbrev main_arg0_scv : Ref sig .scVector := ⟨.hbm, 0, rfl⟩
abbrev main_arg1_scv : Ref sig .scVector := ⟨.hbm, 1, rfl⟩
abbrev main_arg3_scv : Ref sig .scVector := ⟨.hbm, 3, rfl⟩
abbrev main_arg4_scv : Ref sig .scVector := ⟨.hbm, 4, rfl⟩
abbrev main_arg6_scv : Ref sig .scVector := ⟨.hbm, 6, rfl⟩
abbrev main_arg7_scv : Ref sig .scVector := ⟨.hbm, 7, rfl⟩
abbrev main_v7_scv : Ref sig .scVector := ⟨.hbm, 21, rfl⟩
abbrev main_v8_0_scv : Ref sig .scVector := ⟨.hbm, 22, rfl⟩
abbrev main_v8_1_scv : Ref sig .scVector := ⟨.hbm, 23, rfl⟩
abbrev main_v8_2_scv : Ref sig .scVector := ⟨.hbm, 24, rfl⟩
abbrev main_v8_3_scv : Ref sig .scVector := ⟨.hbm, 25, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  v2
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := v2
  ![v3.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := v2
  ![v3.toNat]
@[reducible] def k0_t1_loop : Scf.Loop 32 :=
  let c0_i32_37 : BitVec 32 := 0#32
  let c64_i32 : BitVec 32 := 64#32
  let v139 : BitVec 32 := Scalar.addi c0_i32_37 c64_i32
  let c1_i32_38 : BitVec 32 := 1#32
  ⟨c0_i32_37, v139, c1_i32_38⟩
def k0_cond5 (i : grid0.Coords) (v31 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := v2
  let c1024_i32_9 : BitVec 32 := 1024#32
  let v50 : BitVec 32 := Scalar.addi v3 c1024_i32_9
  let v51 : BitVec 1 := Scalar.cmpi .sgt v50 v40
  let v52 : BitVec 32 := Scalar.addi v40 v31
  let v53 : BitVec 1 := Scalar.cmpi .slt v3 v52
  let v54 : BitVec 1 := Scalar.andi v51 v53
  let v84 : BitVec 32 := Scalar.extui v54
  let c0_i32_22 : BitVec 32 := 0#32
  let v85 : BitVec 1 := Scalar.cmpi .ne v84 c0_i32_22
  v85

def k0_chk1 (i : grid0.Coords) (v31 : BitVec 32) (v40 : BitVec 32) (v152 : IVec S16 32) : Prop :=
  (∀ (k0_h5 : k0_cond5 i v31 v40 = 1#1), ∀ a x, ((![v152] : Fin 1 → IVec S16 32) a x).toNat < S2048.size a)
theorem k0_idx1_inb : ∀ (i : grid0.Coords) (v31 : BitVec 32) (v40 : BitVec 32) (v152 : IVec S16 32) (k0_hw1 : k0_chk1 i v31 v40 v152), ∀ (k0_h5 : k0_cond5 i v31 v40 = 1#1), ∀ a x, ((![v152] : Fin 1 → IVec S16 32) a x).toNat < S2048.size a := fun i v31 v40 v152 k0_hw1 k0_h5 => k0_hw1 k0_h5
def k0_off3 (k0_t1 : Fin k0_t1_loop.trips) : Fin 1 → Nat :=
  let c0_i32_40 : BitVec 32 := 0#32
  let c0_i32_37 : BitVec 32 := 0#32
  let c1_i32_38 : BitVec 32 := 1#32
  let arg24 : BitVec 32 := Scf.iv c0_i32_37 c1_i32_38 k0_t1
  let c16_i32 : BitVec 32 := 16#32
  let v140 : BitVec 32 := Scalar.muli arg24 c16_i32
  let v141 : BitVec 32 := Scalar.addi c0_i32_40 v140
  let v154 : Index := Scalar.indexCast v141
  ![v154.toNat]
@[reducible] def k0_t2_loop : Scf.Loop 32 :=
  let c0_i32_37 : BitVec 32 := 0#32
  let c64_i32 : BitVec 32 := 64#32
  let v139 : BitVec 32 := Scalar.addi c0_i32_37 c64_i32
  let c1_i32_38 : BitVec 32 := 1#32
  ⟨c0_i32_37, v139, c1_i32_38⟩
def k0_cond6 (i : grid0.Coords) (v31 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := v2
  let c1024_i32_10 : BitVec 32 := 1024#32
  let v55 : BitVec 32 := Scalar.addi v3 c1024_i32_10
  let v56 : BitVec 1 := Scalar.cmpi .sgt v55 v40
  let v57 : BitVec 32 := Scalar.addi v40 v31
  let v58 : BitVec 1 := Scalar.cmpi .slt v3 v57
  let v59 : BitVec 1 := Scalar.andi v56 v58
  let v94 : BitVec 32 := Scalar.extui v59
  let c0_i32_25 : BitVec 32 := 0#32
  let v95 : BitVec 1 := Scalar.cmpi .ne v94 c0_i32_25
  v95

def k0_chk2 (i : grid0.Coords) (v31 : BitVec 32) (v40 : BitVec 32) (v152 : IVec S16 32) : Prop :=
  (∀ (k0_h6 : k0_cond6 i v31 v40 = 1#1), ∀ a x, ((![v152] : Fin 1 → IVec S16 32) a x).toNat < S2048.size a)
theorem k0_idx2_inb : ∀ (i : grid0.Coords) (v31 : BitVec 32) (v40 : BitVec 32) (v152 : IVec S16 32) (k0_hw2 : k0_chk2 i v31 v40 v152), ∀ (k0_h6 : k0_cond6 i v31 v40 = 1#1), ∀ a x, ((![v152] : Fin 1 → IVec S16 32) a x).toNat < S2048.size a := fun i v31 v40 v152 k0_hw2 k0_h6 => k0_hw2 k0_h6
def k0_off4 (k0_t2 : Fin k0_t2_loop.trips) : Fin 1 → Nat :=
  let c0_i32_40 : BitVec 32 := 0#32
  let c0_i32_37 : BitVec 32 := 0#32
  let c1_i32_38 : BitVec 32 := 1#32
  let arg24 : BitVec 32 := Scf.iv c0_i32_37 c1_i32_38 k0_t2
  let c16_i32 : BitVec 32 := 16#32
  let v140 : BitVec 32 := Scalar.muli arg24 c16_i32
  let v141 : BitVec 32 := Scalar.addi c0_i32_40 v140
  let v154 : Index := Scalar.indexCast v141
  ![v154.toNat]
@[reducible] def k0_t3_loop : Scf.Loop 32 :=
  let c0_i32_37 : BitVec 32 := 0#32
  let c64_i32 : BitVec 32 := 64#32
  let v139 : BitVec 32 := Scalar.addi c0_i32_37 c64_i32
  let c1_i32_38 : BitVec 32 := 1#32
  ⟨c0_i32_37, v139, c1_i32_38⟩
def k0_cond7 (i : grid0.Coords) (v31 : BitVec 32) (v49 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := v2
  let c1024_i32_11 : BitVec 32 := 1024#32
  let v60 : BitVec 32 := Scalar.addi v3 c1024_i32_11
  let v61 : BitVec 1 := Scalar.cmpi .sgt v60 v49
  let v62 : BitVec 32 := Scalar.addi v49 v31
  let v63 : BitVec 1 := Scalar.cmpi .slt v3 v62
  let v64 : BitVec 1 := Scalar.andi v61 v63
  let v104 : BitVec 32 := Scalar.extui v64
  let c0_i32_28 : BitVec 32 := 0#32
  let v105 : BitVec 1 := Scalar.cmpi .ne v104 c0_i32_28
  v105

def k0_chk3 (i : grid0.Coords) (v31 : BitVec 32) (v49 : BitVec 32) (v152 : IVec S16 32) : Prop :=
  (∀ (k0_h7 : k0_cond7 i v31 v49 = 1#1), ∀ a x, ((![v152] : Fin 1 → IVec S16 32) a x).toNat < S2048.size a)
theorem k0_idx3_inb : ∀ (i : grid0.Coords) (v31 : BitVec 32) (v49 : BitVec 32) (v152 : IVec S16 32) (k0_hw3 : k0_chk3 i v31 v49 v152), ∀ (k0_h7 : k0_cond7 i v31 v49 = 1#1), ∀ a x, ((![v152] : Fin 1 → IVec S16 32) a x).toNat < S2048.size a := fun i v31 v49 v152 k0_hw3 k0_h7 => k0_hw3 k0_h7
def k0_off5 (k0_t3 : Fin k0_t3_loop.trips) : Fin 1 → Nat :=
  let c0_i32_40 : BitVec 32 := 0#32
  let c0_i32_37 : BitVec 32 := 0#32
  let c1_i32_38 : BitVec 32 := 1#32
  let arg24 : BitVec 32 := Scf.iv c0_i32_37 c1_i32_38 k0_t3
  let c16_i32 : BitVec 32 := 16#32
  let v140 : BitVec 32 := Scalar.muli arg24 c16_i32
  let v141 : BitVec 32 := Scalar.addi c0_i32_40 v140
  let v154 : Index := Scalar.indexCast v141
  ![v154.toNat]
@[reducible] def k0_t4_loop : Scf.Loop 32 :=
  let c0_i32_37 : BitVec 32 := 0#32
  let c64_i32 : BitVec 32 := 64#32
  let v139 : BitVec 32 := Scalar.addi c0_i32_37 c64_i32
  let c1_i32_38 : BitVec 32 := 1#32
  ⟨c0_i32_37, v139, c1_i32_38⟩
def k0_cond8 (i : grid0.Coords) (v31 : BitVec 32) (v49 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := v2
  let c1024_i32_12 : BitVec 32 := 1024#32
  let v65 : BitVec 32 := Scalar.addi v3 c1024_i32_12
  let v66 : BitVec 1 := Scalar.cmpi .sgt v65 v49
  let v67 : BitVec 32 := Scalar.addi v49 v31
  let v68 : BitVec 1 := Scalar.cmpi .slt v3 v67
  let v69 : BitVec 1 := Scalar.andi v66 v68
  let v114 : BitVec 32 := Scalar.extui v69
  let c0_i32_31 : BitVec 32 := 0#32
  let v115 : BitVec 1 := Scalar.cmpi .ne v114 c0_i32_31
  v115

def k0_chk4 (i : grid0.Coords) (v31 : BitVec 32) (v49 : BitVec 32) (v152 : IVec S16 32) : Prop :=
  (∀ (k0_h8 : k0_cond8 i v31 v49 = 1#1), ∀ a x, ((![v152] : Fin 1 → IVec S16 32) a x).toNat < S2048.size a)
theorem k0_idx4_inb : ∀ (i : grid0.Coords) (v31 : BitVec 32) (v49 : BitVec 32) (v152 : IVec S16 32) (k0_hw4 : k0_chk4 i v31 v49 v152), ∀ (k0_h8 : k0_cond8 i v31 v49 = 1#1), ∀ a x, ((![v152] : Fin 1 → IVec S16 32) a x).toNat < S2048.size a := fun i v31 v49 v152 k0_hw4 k0_h8 => k0_hw4 k0_h8
def k0_off6 (k0_t4 : Fin k0_t4_loop.trips) : Fin 1 → Nat :=
  let c0_i32_40 : BitVec 32 := 0#32
  let c0_i32_37 : BitVec 32 := 0#32
  let c1_i32_38 : BitVec 32 := 1#32
  let arg24 : BitVec 32 := Scf.iv c0_i32_37 c1_i32_38 k0_t4
  let c16_i32 : BitVec 32 := 16#32
  let v140 : BitVec 32 := Scalar.muli arg24 c16_i32
  let v141 : BitVec 32 := Scalar.addi c0_i32_40 v140
  let v154 : Index := Scalar.indexCast v141
  ![v154.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048 : Shape := ⟨1, ![2048]⟩
abbrev S_ : Shape := ⟨0, ![]⟩
abbrev S32768 : Shape := ⟨1, ![32768]⟩
abbrev S2048x1 : Shape := ⟨2, ![2048, 1]⟩

abbrev nBuf : Space → Nat
  | .hbm => 115
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048, .i32⟩
  | .hbm, ⟨2, _⟩ => ⟨S_, .i32⟩
  | .hbm, ⟨3, _⟩ => ⟨S32768, .i32⟩
  | .hbm, ⟨4, _⟩ => ⟨S32768, .i32⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i1⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S2048x1, .i32⟩
  | .hbm, ⟨34, _⟩ => ⟨S32768, .i32⟩
  | .hbm, ⟨35, _⟩ => ⟨S2048, .i32⟩
  | .hbm, ⟨36, _⟩ => ⟨S2048, .i32⟩
  | .hbm, ⟨37, _⟩ => ⟨S2048, .i1⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048, .i1⟩
  | .hbm, ⟨46, _⟩ => ⟨S_, .i32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048x1, .i32⟩
  | .hbm, ⟨51, _⟩ => ⟨S2048, .i32⟩
  | .hbm, ⟨52, _⟩ => ⟨S_, .i32⟩
  | .hbm, ⟨53, _⟩ => ⟨S2048, .i32⟩
  | .hbm, ⟨54, _⟩ => ⟨S2048, .i1⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S2048, .i32⟩
  | .hbm, ⟨59, _⟩ => ⟨S2048x1, .i32⟩
  | .hbm, ⟨60, _⟩ => ⟨S32768, .i32⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048, .i1⟩
  | .hbm, ⟨65, _⟩ => ⟨S2048, .i32⟩
  | .hbm, ⟨66, _⟩ => ⟨S2048, .i32⟩
  | .hbm, ⟨67, _⟩ => ⟨S_, .i32⟩
  | .hbm, ⟨68, _⟩ => ⟨S_, .i32⟩
  | .hbm, ⟨69, _⟩ => ⟨S2048, .i32⟩
  | .hbm, ⟨70, _⟩ => ⟨S2048, .i32⟩
  | .hbm, ⟨71, _⟩ => ⟨S2048, .i32⟩
  | .hbm, ⟨72, _⟩ => ⟨S2048, .i1⟩
  | .hbm, ⟨73, _⟩ => ⟨S_, .i32⟩
  | .hbm, ⟨74, _⟩ => ⟨S_, .i32⟩
  | .hbm, ⟨75, _⟩ => ⟨S2048, .i32⟩
  | .hbm, ⟨76, _⟩ => ⟨S2048, .i32⟩
  | .hbm, ⟨77, _⟩ => ⟨S2048x1, .i32⟩
  | .hbm, ⟨78, _⟩ => ⟨S2048, .i32⟩
  | .hbm, ⟨79, _⟩ => ⟨S_, .i32⟩
  | .hbm, ⟨80, _⟩ => ⟨S2048, .i32⟩
  | .hbm, ⟨81, _⟩ => ⟨S2048, .i1⟩
  | .hbm, ⟨82, _⟩ => ⟨S_, .i32⟩
  | .hbm, ⟨83, _⟩ => ⟨S2048, .i32⟩
  | .hbm, ⟨84, _⟩ => ⟨S2048, .i32⟩
  | .hbm, ⟨85, _⟩ => ⟨S2048, .i32⟩
  | .hbm, ⟨86, _⟩ => ⟨S2048x1, .i32⟩
  | .hbm, ⟨87, _⟩ => ⟨S32768, .i32⟩
  | .hbm, ⟨88, _⟩ => ⟨S2048, .i32⟩
  | .hbm, ⟨89, _⟩ => ⟨S2048, .i32⟩
  | .hbm, ⟨90, _⟩ => ⟨S2048, .i1⟩
  | .hbm, ⟨91, _⟩ => ⟨S2048, .i32⟩
  | .hbm, ⟨92, _⟩ => ⟨S2048, .i32⟩
  | .hbm, ⟨93, _⟩ => ⟨S_, .i32⟩
  | .hbm, ⟨94, _⟩ => ⟨S_, .i32⟩
  | .hbm, ⟨95, _⟩ => ⟨S2048, .i32⟩
  | .hbm, ⟨96, _⟩ => ⟨S2048, .i32⟩
  | .hbm, ⟨97, _⟩ => ⟨S2048, .i32⟩
  | .hbm, ⟨98, _⟩ => ⟨S2048, .i1⟩
  | .hbm, ⟨99, _⟩ => ⟨S_, .i32⟩
  | .hbm, ⟨100, _⟩ => ⟨S_, .i32⟩
  | .hbm, ⟨101, _⟩ => ⟨S2048, .i32⟩
  | .hbm, ⟨102, _⟩ => ⟨S2048, .i32⟩
  | .hbm, ⟨103, _⟩ => ⟨S2048x1, .i32⟩
  | .hbm, ⟨104, _⟩ => ⟨S2048, .i32⟩
  | .hbm, ⟨105, _⟩ => ⟨S_, .i32⟩
  | .hbm, ⟨106, _⟩ => ⟨S2048, .i32⟩
  | .hbm, ⟨107, _⟩ => ⟨S2048, .i1⟩
  | .hbm, ⟨108, _⟩ => ⟨S_, .i32⟩
  | .hbm, ⟨109, _⟩ => ⟨S2048, .i32⟩
  | .hbm, ⟨110, _⟩ => ⟨S2048, .i32⟩
  | .hbm, ⟨111, _⟩ => ⟨S2048, .i32⟩
  | .hbm, ⟨112, _⟩ => ⟨S2048x1, .i32⟩
  | .hbm, ⟨113, _⟩ => ⟨S32768, .i32⟩
  | .hbm, ⟨114, _⟩ => ⟨S_, .i32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_v8 : Ref sig .tc := ⟨.hbm, 23, rfl⟩
abbrev main_call2_v0 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_call3_v0 : Ref sig .tc := ⟨.hbm, 41, rfl⟩
abbrev main_call3_v1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_call4_v0 : Ref sig .tc := ⟨.hbm, 47, rfl⟩
abbrev main_call4_v1 : Ref sig .tc := ⟨.hbm, 48, rfl⟩
abbrev main_v25 : Ref sig .tc := ⟨.hbm, 49, rfl⟩
abbrev main_call5_v0 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_7 : Ref sig .tc := ⟨.hbm, 67, rfl⟩
abbrev main_call6_v0 : Ref sig .tc := ⟨.hbm, 68, rfl⟩
abbrev main_call6_v1 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_8 : Ref sig .tc := ⟨.hbm, 73, rfl⟩
abbrev main_call7_v0 : Ref sig .tc := ⟨.hbm, 74, rfl⟩
abbrev main_call7_v1 : Ref sig .tc := ⟨.hbm, 75, rfl⟩
abbrev main_v43 : Ref sig .tc := ⟨.hbm, 76, rfl⟩
abbrev main_call8_v0 : Ref sig .tc := ⟨.hbm, 77, rfl⟩
abbrev main_v44 : Ref sig .tc := ⟨.hbm, 78, rfl⟩
abbrev main_c_9 : Ref sig .tc := ⟨.hbm, 79, rfl⟩
abbrev main_v45 : Ref sig .tc := ⟨.hbm, 80, rfl⟩
abbrev main_v46 : Ref sig .tc := ⟨.hbm, 81, rfl⟩
abbrev main_c_10 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_11 : Ref sig .tc := ⟨.hbm, 93, rfl⟩
abbrev main_call9_v0 : Ref sig .tc := ⟨.hbm, 94, rfl⟩
abbrev main_call9_v1 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_12 : Ref sig .tc := ⟨.hbm, 99, rfl⟩
abbrev main_call10_v0 : Ref sig .tc := ⟨.hbm, 100, rfl⟩
abbrev main_call10_v1 : Ref sig .tc := ⟨.hbm, 101, rfl⟩
abbrev main_v60 : Ref sig .tc := ⟨.hbm, 102, rfl⟩
abbrev main_call11_v0 : Ref sig .tc := ⟨.hbm, 103, rfl⟩
abbrev main_v61 : Ref sig .tc := ⟨.hbm, 104, rfl⟩
abbrev main_c_13 : Ref sig .tc := ⟨.hbm, 105, rfl⟩
abbrev main_v62 : Ref sig .tc := ⟨.hbm, 106, rfl⟩
abbrev main_v63 : Ref sig .tc := ⟨.hbm, 107, rfl⟩
abbrev main_c_14 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩

abbrev nD : Nat := 1
abbrev τ : Topo := Topo.v7x

variable {F : FTy → Type} [FloatOps F]
-- ==== Proof.Appended.lean ====
/-
  What the kernel writes, as plain functions of words: a destination array whose elements from `start` up to
  `start + num` are replaced by the leading elements of a source array.
-/
module

public import proofs.«01_k».proof.Defs
public import proofs.«01_k».proof.Proof.Gen.KernelIdeal

@[expose] public section

noncomputable section

namespace Cert.Proof.Append

open Idealize.ShloMosaic
open Cert.KernelIdeal Cert.KernelIdeal.Gen

/-- The source position read for a word: the word as a signed number, brought into `0 … 2047`. -/
def clip (w : BitVec 32) : BitVec 32 := IntOp.minsi 2047#32 (IntOp.maxsi 0#32 w)

theorem clip_lt (w : BitVec 32) : (clip w).toNat < 2048 := by
  unfold clip IntOp.minsi IntOp.maxsi
  simp only [BitVec.slt_eq_decide, decide_eq_true_eq, BitVec.toInt_eq_toNat_cond]
  split_ifs <;> simp_all <;> omega

/-- That position as an index of the source array. -/
def srcIx (w : BitVec 32) : S2048.Idx := fun a => match a with | 0 => ⟨(clip w).toNat, clip_lt w⟩

/-- The word `w` lies in `start … start + num - 1`, both ends compared as signed numbers. -/
def inWindow (num start w : BitVec 32) : BitVec 1 :=
  IntOp.andi (IntOp.cmpi .sge w start) (IntOp.cmpi .slt w (IntOp.addi start num))

/-- One element of the appended array: at position `w`, the source's element `w - start` inside the window, the old
    element outside it. -/
def appendAt (num start : BitVec 32) (src : S2048.Idx → BitVec 32) (w old : BitVec 32) : BitVec 32 :=
  Scalar.select (inWindow num start w) (src (srcIx (IntOp.subi w start))) old

/-- The whole appended array. -/
def appended (num start : BitVec 32) (src : S2048.Idx → BitVec 32) (dst : S32768.Idx → BitVec 32) : S32768.Idx → BitVec 32 :=
  fun j => appendAt num start src (BitVec.ofNat 32 (j 0).val) (dst j)

end Cert.Proof.Append

end
-- ==== Proof.Setup.lean ====
/-
  The launch as the SparseCore launch theorem sees it, and what passes between the TensorCore and the thirty-two vector
  subcores: each subcore takes a read share of the two source arrays and of the three packed numbers, and its own 1024
  elements of each destination array and of each result; it brings them back with its elements of each result appended.
-/
module

public import proofs.«01_k».proof.Defs
public import proofs.«01_k».proof.Proof.Appended
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Append

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- The launch's semaphores are four different cells the program's threads do not use otherwise. -/
theorem launchFacts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The numbers the kernel is given -/

/-- The three numbers, packed by @main into the first elements of a vector of sixteen: how many elements to append
    (at most 2048), and where each of the two appends starts. -/
def packed (num startG startQ : S_.Idx → BitVec 32) : S16.Idx → BitVec 32 :=
  Host.scatter scatter_S16_S1_S__n_0_0_0 (fun _ b => b)
    (Host.scatter scatter_S16_S1_S__n_0_0_0 (fun _ b => b)
      (Host.scatter scatter_S16_S1_S__n_0_0_0 (fun _ b => b)
        (broadcastInDim S16 ![] bcast_S_S16 (constantI S_ 32 0#32))
        (broadcastInDim S1 ![] bcast_S_S1 (constantI S_ 32 0#32))
        (minsi num (constantI S_ 32 2048#32)))
      (broadcastInDim S1 ![] bcast_S_S1 (constantI S_ 32 1#32)) startG)
    (broadcastInDim S1 ![] bcast_S_S1 (constantI S_ 32 2#32)) startQ

/-! ## The launch memory -/

variable (m : (ℓ : Loc nD τ sig) → Buf (Elt F) ℓ) (ρ : Dev nD → PrngReg)

/-- An array of @main's on device `d`. -/
abbrev hb (d : Dev nD) (r : Ref sig .tc) : Loc nD τ sig := (SparseCore.T d).loc r

/-- The packed numbers of device `d`. -/
def nums (d : Dev nD) : S16.Idx → BitVec 32 := packed (m (hb d main_arg2)) (m (hb d main_arg5)) (m (hb d main_arg8))

/-- How many elements device `d` appends. -/
def num (d : Dev nD) : BitVec 32 := IntOp.minsi (m (hb d main_arg2) (fun a => a.elim0)) 2048#32
/-- Where the appends to the generated tokens' buffers, and to the queued tokens' buffers, start. -/
def startG (d : Dev nD) : BitVec 32 := m (hb d main_arg5) (fun a => a.elim0)
def startQ (d : Dev nD) : BitVec 32 := m (hb d main_arg8) (fun a => a.elim0)

/-- The four appended arrays. -/
def res0 (d : Dev nD) : S32768.Idx → BitVec 32 := appended (num m d) (startG m d) (m (hb d main_arg0)) (m (hb d main_arg3))
def res1 (d : Dev nD) : S32768.Idx → BitVec 32 := appended (num m d) (startG m d) (m (hb d main_arg1)) (m (hb d main_arg4))
def res2 (d : Dev nD) : S32768.Idx → BitVec 32 := appended (num m d) (startQ m d) (m (hb d main_arg0)) (m (hb d main_arg6))
def res3 (d : Dev nD) : S32768.Idx → BitVec 32 := appended (num m d) (startQ m d) (m (hb d main_arg1)) (m (hb d main_arg7))

/-! ## Each subcore's part -/

theorem slices : 32 ∣ S32768.size 0 := ⟨1024, rfl⟩

/-- The elements of a destination array, or of a result, that subcore number `w` works on. -/
abbrev sliceSet (w : Fin 32) : Finset S32768.Idx := (Rect.part (s := S32768) (a₀ := 0) slices w).set

/-- Subcore number `w`'s read share. -/
abbrev tokq (w : Fin 32) : PosShare TreeShare := Transfers.shareTok fullShare 32 w

/-- The read shares subcore `w` takes: of the two source arrays and of the packed numbers. -/
def tileReads (d : Dev nD) (w : Fin 32) : sProp 𝕄 :=
  iprop((hb d main_arg0 ↦{tokq w} m (hb d main_arg0)) ∗ (hb d main_arg1 ↦{tokq w} m (hb d main_arg1)) ∗ (hb d main_v7 ↦{tokq w} nums m d))

/-- Subcore `w`'s elements of the four destination arrays. -/
def tileDests (d : Dev nD) (w : Fin 32) : sProp 𝕄 :=
  iprop((hb d main_arg3 ↦[sliceSet w]{fullShare} m (hb d main_arg3)) ∗ (hb d main_arg4 ↦[sliceSet w]{fullShare} m (hb d main_arg4))
    ∗ (hb d main_arg6 ↦[sliceSet w]{fullShare} m (hb d main_arg6)) ∗ (hb d main_arg7 ↦[sliceSet w]{fullShare} m (hb d main_arg7)))

/-- Subcore `w`'s elements of the four results, holding what the four functions say. -/
def tileRes (d : Dev nD) (w : Fin 32) (f0 f1 f2 f3 : S32768.Idx → BitVec 32) : sProp 𝕄 :=
  iprop((hb d main_v8_0 ↦[sliceSet w]{fullShare} f0) ∗ (hb d main_v8_1 ↦[sliceSet w]{fullShare} f1)
    ∗ (hb d main_v8_2 ↦[sliceSet w]{fullShare} f2) ∗ (hb d main_v8_3 ↦[sliceSet w]{fullShare} f3))

/-- What a subcore takes, -/
def tilePre (d : Dev nD) (w : Fin 32) : sProp 𝕄 :=
  iprop(tileReads m d w ∗ tileDests m d w ∗ tileRes d w (m (hb d main_v8_0)) (m (hb d main_v8_1)) (m (hb d main_v8_2)) (m (hb d main_v8_3)))
/-- and what it brings back. -/
def tilePost (d : Dev nD) (w : Fin 32) : sProp 𝕄 :=
  iprop(tileReads m d w ∗ tileDests m d w ∗ tileRes d w (res0 m d) (res1 m d) (res2 m d) (res3 m d))

/-- The number of the vector subcore `i` of SparseCore `c`: it works on the 1024 elements from `1024` times it. -/
def wid (c : Fin 2) (i : Fin 16) : Fin 32 := finProdFinEquiv (i, c)

theorem wid_val (c : Fin 2) (i : Fin 16) : (wid c i).val = c.val + 2 * i.val := rfl

/-- What the call carries: to each SparseCore its sixteen subcores' parts, to each subcore its own; and back. -/
def P : (K (F := F)).Pay (nD := nD) (Val := Elt F) (Name := ℕ) (U := UU) where
  st := fun q d c => match q with | 0 => bigSep Finset.univ fun i : Fin ((K (F := F)).nSub 0) => tilePre m d (wid (Fin.cast nCore_zero c) (Fin.cast nSub_zero i))
  dn := fun q d c => match q with | 0 => bigSep Finset.univ fun i : Fin ((K (F := F)).nSub 0) => tilePost m d (wid (Fin.cast nCore_zero c) (Fin.cast nSub_zero i))
  go := fun q d c i => match q with | 0 => tilePre m d (wid (Fin.cast nCore_zero c) (Fin.cast nSub_zero i))
  td := fun q d c i => match q with | 0 => tilePost m d (wid (Fin.cast nCore_zero c) (Fin.cast nSub_zero i))
  x := fun _ _ => iprop(emp)

instance storable_tilePre (d : Dev nD) (w : Fin 32) : BI.Storable (upEmb : UEmb _ 𝕄) (tilePre m d w) := by
  unfold tilePre tileReads tileDests tileRes; infer_instance
instance storable_tilePost (d : Dev nD) (w : Fin 32) : BI.Storable (upEmb : UEmb _ 𝕄) (tilePost m d w) := by
  unfold tilePost tileReads tileDests tileRes; infer_instance

instance P_storable : (P (F := F) m).IsStorable where
  st q d c := match q with
    | 0 => (inferInstance : BI.Storable (upEmb : UEmb _ 𝕄) (bigSep Finset.univ fun i : Fin ((K (F := F)).nSub 0) => tilePre m d (wid (Fin.cast nCore_zero c) (Fin.cast nSub_zero i))))
  dn q d c := match q with
    | 0 => (inferInstance : BI.Storable (upEmb : UEmb _ 𝕄) (bigSep Finset.univ fun i : Fin ((K (F := F)).nSub 0) => tilePost m d (wid (Fin.cast nCore_zero c) (Fin.cast nSub_zero i))))
  go q d c i := match q with | 0 => storable_tilePre m d _
  td q d c i := match q with | 0 => storable_tilePost m d _

end Cert.Proof.Append

end
-- ==== Proof.Trip.lean ====
/-
  One slice's rewriting loop: sixteen elements a trip, each the source's element at its place inside the window and the
  element already there outside it.
-/
module

public import proofs.«01_k».proof.Proof.Setup
public import Idealize.ShloMosaic.Lib.WritesUnit

@[expose] public section

noncomputable section

namespace Cert.Proof.Append

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The slice after some trips -/

/-- A slice whose element `x` lies at word `base + x` of its array, its first `n` elements rewritten. -/
def mixed (num start base : BitVec 32) (src : S2048.Idx → BitVec 32) (old : S1024.Idx → BitVec 32) (n : Nat) : S1024.Idx → BitVec 32 :=
  fun x => if (x 0).val < n then appendAt num start src (base + BitVec.ofNat 32 (x 0).val) (old x) else old x

theorem mixed_zero (num start base : BitVec 32) (src : S2048.Idx → BitVec 32) (old : S1024.Idx → BitVec 32) :
    mixed num start base src old 0 = old := funext fun _ => if_neg (Nat.not_lt_zero _)

theorem mixed_full (num start base : BitVec 32) (src : S2048.Idx → BitVec 32) (old : S1024.Idx → BitVec 32) :
    mixed num start base src old 1024 = fun x => appendAt num start src (base + BitVec.ofNat 32 (x 0).val) (old x) :=
  funext fun x => if_pos (x 0).isLt

/-- The lanes' numbers. -/
abbrev lanes : IVec S16 32 := iota .scVector S16 32 [0] iota_S16_d0_w32_scVector

/-- Lane `x` of trip `t` stands for word `base + (16 t + x)`. -/
theorem place_apply (base : BitVec 32) (t : Fin k0_t1_loop.trips) (x : S16.Idx) :
    k0_pay8 base lanes t x = base + BitVec.ofNat 32 (16 * t.val + (x 0).val) := by
  have h1 : lanes x = BitVec.ofNat 32 (x 0).val := by
    simp [lanes, iota]
  show lanes x + (base + (0#32 + (0#32 + BitVec.ofNat 32 t.val * 1#32) * 16#32)) = _
  rw [h1]
  apply BitVec.eq_of_toNat_eq
  simp only [BitVec.toNat_add, BitVec.toNat_mul, BitVec.toNat_ofNat]
  omega

/-- The source position of every lane is inside the source. -/
theorem place_lt (base start : BitVec 32) (t : Fin k0_t1_loop.trips) :
    ∀ a x, ((![k0_pay9 base lanes start t] : Fin 1 → IVec S16 32) a x).toNat < S2048.size a := by
  intro a x
  match a with
  | 0 => exact clip_lt _

/-- What a trip stores at lane `x`. -/
theorem stored_apply (num start base : BitVec 32) (t : Fin k0_t1_loop.trips) (src : Vec F S2048 .i32) (old : Vec F S16 .i32)
    (h : ∀ a x, ((![k0_pay9 base lanes start t] : Fin 1 → IVec S16 32) a x).toNat < S2048.size a) (x : S16.Idx) :
    k0_pay10 base lanes num start t (loadIdx src ![k0_pay9 base lanes start t] h) old x
      = appendAt num start src (base + BitVec.ofNat 32 (16 * t.val + (x 0).val)) (old x) := by
  rw [← place_apply]
  show Scalar.select _ _ _ = Scalar.select _ _ _
  congr 1
  show src _ = src _
  congr 1
  funext a
  match a with
  | 0 => rfl

/-- Lane `n`'s index. -/
def laneIx (n : Nat) (h : n < 16) : S16.Idx := fun a => match a with | 0 => ⟨n, h⟩

/-- Storing sixteen elements at a slice's element `16 t`. -/
theorem read_stored {κ : Kind} (dst : Memref sig κ .vmem S1024 .i32) (g : dst.view.ty.Contents (Elt F)) (w : Vec F S16 .i32) (t : Nat)
    (inb : ∀ a : Fin 1, (![16 * t] : Fin 1 → Nat) a + S16.size a ≤ S1024.size a) (x : S1024.Idx) :
    dst.view.read (Elt F) ((dst.access (Rect.unit (s := S1024) ![16 * t] S16.size inb)).write (Elt F) g w Finset.univ) x
      = if h : 16 * t ≤ (x 0).val ∧ (x 0).val < 16 * t + 16 then w (laneIx ((x 0).val - 16 * t) (by omega)) else dst.view.read (Elt F) g x := by
  show dst.view.read (Elt F) (dst.view.writes (Elt F) g [⟨Rect.unit (s := S1024) ![16 * t] S16.size inb, w⟩]) x = _
  split
  · next h =>
    exact View.read_writes_cons_unit_of_mem dst.view g inb w [] x (laneIx ((x 0).val - 16 * t) (by omega)) rfl
      (fun a => by match a with | 0 => show (x 0).val = 16 * t + ((x 0).val - 16 * t); omega)
  · next h =>
    exact View.read_writes_cons_unit_of_not_mem dst.view g inb w [] x rfl 0
      (by show (x 0).val < 16 * t ∨ 16 * t + 16 ≤ (x 0).val; omega)

/-- Loading sixteen elements at a slice's element `16 t`. -/
theorem read_loaded {κ : Kind} (dst : Memref sig κ .vmem S1024 .i32) (g : dst.view.ty.Contents (Elt F)) (t : Nat)
    (inb : ∀ a : Fin 1, (![16 * t] : Fin 1 → Nat) a + S16.size a ≤ S1024.size a) (x : S1024.Idx)
    (h : 16 * t ≤ (x 0).val ∧ (x 0).val < 16 * t + 16) :
    dst.view.readAt (Elt F) (Rect.unit (s := S1024) ![16 * t] S16.size inb).toLoadRect g (laneIx ((x 0).val - 16 * t) (by omega))
      = dst.view.read (Elt F) g x := by
  rw [View.readAt_apply]
  congr 1
  funext a
  apply Fin.ext
  match a with
  | 0 => show 16 * t + 1 * ((x 0).val - 16 * t) = (x 0).val; omega

/-- The whole of a buffer, read through the whole rectangle. -/
theorem read_all {κ : Kind} (src : Memref sig κ .vmem S2048 .i32) (f : src.view.ty.Contents (Elt F)) :
    (src.access (Rect.whole S2048)).read (Elt F) f = src.view.read (Elt F) f := by
  funext y
  show src.view.read (Elt F) f ((Rect.whole S2048).emb y) = _
  rw [Rect.emb_whole_apply]

/-- A slice with its elements before `16 t` rewritten, after trip `t`'s store. -/
theorem mixed_step {κ κ' : Kind} (src : Memref sig κ' .vmem S2048 .i32) (dst : Memref sig κ .vmem S1024 .i32)
    (fs : src.view.ty.Contents (Elt F)) (g : dst.view.ty.Contents (Elt F)) (num start base : BitVec 32) (old : Vec F S1024 .i32)
    (t : Fin k0_t1_loop.trips) (inb : ∀ a : Fin 1, (![16 * t.val] : Fin 1 → Nat) a + S16.size a ≤ S1024.size a)
    (h : ∀ a x, ((![k0_pay9 base lanes start t] : Fin 1 → IVec S16 32) a x).toNat < S2048.size a)
    (hg : dst.view.read (Elt F) g = mixed num start base (src.view.read (Elt F) fs) old (16 * t.val)) :
    dst.view.read (Elt F) ((dst.access (Rect.unit (s := S1024) ![16 * t.val] S16.size inb)).write (Elt F) g
        (k0_pay10 base lanes num start t
          (loadIdx ((src.access (Rect.whole S2048)).read (Elt F) fs) ![k0_pay9 base lanes start t] h)
          (dst.view.readAt (Elt F) (Rect.unit (s := S1024) ![16 * t.val] S16.size inb).toLoadRect g)) Finset.univ)
      = mixed num start base (src.view.read (Elt F) fs) old (16 * (t.val + 1)) := by
  funext x
  rw [read_stored, read_all]
  split
  · next hx =>
    rw [stored_apply, read_loaded dst g t.val inb x hx, hg]
    unfold mixed
    rw [if_neg (by omega), if_pos (by omega)]
    congr 3
    show 16 * t.val + ((x 0).val - 16 * t.val) = _
    omega
  · next hx =>
    rw [hg]
    unfold mixed
    by_cases h1 : (x 0).val < 16 * t.val
    · rw [if_pos h1, if_pos (by omega)]
    · rw [if_neg h1, if_neg (by omega)]

/-- Between trips: the source array at some share, and the slice with its first `n` elements rewritten. -/
def midway (thr : Thread nD τ) (src : Memref sig thr.2.kind .vmem S2048 .i32) (dst : Memref sig thr.2.kind .vmem S1024 .i32)
    (num start base : BitVec 32) (q : PosShare TreeShare) (fs : Buf (Elt F) (src.view.loc thr)) (old : Vec F S1024 .i32) (n : Nat) : sProp 𝕄 :=
  iprop((src.view.loc thr ↦{q} fs)
    ∗ ∃ g, ⌜dst.view.read (Elt F) g = mixed num start base (src.view.read (Elt F) fs) old n⌝ ∗ (dst.view.loc thr ↦{fullShare} g))

variable [FloatOps F]

/-- One trip. -/
theorem trip (thr : Thread nD τ) (src : Memref sig thr.2.kind .vmem S2048 .i32) (dst : Memref sig thr.2.kind .vmem S1024 .i32)
    (num start base : BitVec 32) (t : Fin k0_t1_loop.trips) {off : Fin 1 → Nat} (hoff : off = ![16 * t.val])
    (inb : ∀ a : Fin 1, off a + S16.size a ≤ S1024.size a)
    {P : Prop} {dec : Decidable P} (hP : P)
    (hin : P → ∀ a x, ((![k0_pay9 base lanes start t] : Fin 1 → IVec S16 32) a x).toNat < S2048.size a)
    (hl : src.view.Loads) (hd : dst.view.LoadsAt (Rect.unit (s := S1024) off S16.size inb).toLoadRect)
    (hst : (dst.access (Rect.unit (s := S1024) off S16.size inb)).Stores Finset.univ)
    (hst' : (Finset.univ : Finset (Rect.unit (s := S1024) off S16.size inb).shape.Idx) = Finset.univ ∨ ∀ a, (Rect.unit (s := S1024) off S16.size inb).stride a = 1)
    (q : PosShare TreeShare) (fs : Buf (Elt F) (src.view.loc thr)) (old : Vec F S1024 .i32) :
    midway thr src dst num start base q fs old (16 * t.val)
      ⊢ wp frame (wpE (defs₀ (F := F)) 𝒱₀ thr none) Set.univ
          (do
            have hw : P := (← Prog.lift (TpuEff.assume P dec)).down
            let v153 : Vec F S16 .i32 ← SparseCore.vectorLoadIdx src ![k0_pay9 base lanes start t] (hin hw) hl
            let v155 : Vec F S16 .i32 ← Prog.lift (.load dst (Rect.unit (s := S1024) off S16.size inb).toLoadRect hd)
            let _v158 : Vec F S16 .i32 ← Prog.lift (.load dst (Rect.unit (s := S1024) off S16.size inb).toLoadRect hd)
            Prog.lift (.store dst (Rect.unit (s := S1024) off S16.size inb) (k0_pay10 base lanes num start t v153 v155) Finset.univ hst hst')
            pure PUnit.unit : Prog (TpuEff nD τ sig (Elt F) Λ₀ thr.2) PUnit)
          fun _ => midway thr src dst num start base q fs old (16 * (t.val + 1)) := by
  subst hoff
  unfold midway
  iintro ⟨Hs, %g, %hg, Hd⟩
  simp only [Prog.bind_lift]
  rw [wp_assume_of _ _ _ _ hP]
  iapply (SparseCore.wp_vectorLoadIdx 𝒱₀ thr none Set.univ (base := src) (S := Finset.univ) (q := q) (Finset.subset_univ _)) $$ Hs; iintro Hs
  iapply (wp_load 𝒱₀ thr none Set.univ (m := dst) (S := Finset.univ) (Finset.subset_univ _)) $$ Hd; iintro Hd
  iapply (wp_load 𝒱₀ thr none Set.univ (m := dst) (S := Finset.univ) (Finset.subset_univ _)) $$ Hd; iintro Hd
  ihave Hd := (Entails.of_eq (show (dst.view.loc thr ↦{fullShare} g : sProp 𝕄)
    = ((dst.access (Rect.unit (s := S1024) ![16 * t.val] S16.size inb)).loc thr ↦{fullShare} g) from rfl)) $$ Hd
  iapply (wp_store 𝒱₀ thr none Set.univ (m := dst) (r := Rect.unit (s := S1024) ![16 * t.val] S16.size inb) (Mk := Finset.univ) (S := Finset.univ) (Finset.subset_univ _)) $$ Hd; iintro Hd
  sl_step
  isplitl [Hs]; · iexact Hs
  iexists ((dst.access (Rect.unit (s := S1024) ![16 * t.val] S16.size inb)).write (Elt F) g _ Finset.univ)
  isplitr [Hd]; swap
  · iexact Hd
  ipureintro
  exact mixed_step src dst fs g num start base old t inb (hin hP) hg

/-- A slice's rewriting under its test, at the head of a program: where the test fails the slice is as it should be already. -/
theorem rewriting (thr : Thread nD τ) (src : Memref sig thr.2.kind .vmem S2048 .i32) (dst : Memref sig thr.2.kind .vmem S1024 .i32)
    (num start base : BitVec 32) {C : Prop} [Decidable C] (hok : k0_t1_loop.OK)
    (body : C → Fin k0_t1_loop.trips → Unit → Prog (TpuEff nD τ sig (Elt F) Λ₀ thr.2) Unit)
    (rest : Prog (TpuEff nD τ sig (Elt F) Λ₀ thr.2) PUnit) (Q : PUnit → sProp 𝕄)
    (q : PosShare TreeShare) (fs : Buf (Elt F) (src.view.loc thr)) (src₀ : S2048.Idx → BitVec 32) (old : Vec F S1024 .i32)
    (g₀ : Buf (Elt F) (dst.view.loc thr)) (hg₀ : dst.view.read (Elt F) g₀ = old)
    (hbody : ∀ (hc : C) (t : Fin k0_t1_loop.trips) (u : Unit), midway thr src dst num start base q fs old (16 * t.val)
      ⊢ wp frame (wpE (defs₀ (F := F)) 𝒱₀ thr none) Set.univ (body hc t u) fun _ => midway thr src dst num start base q fs old (16 * (t.val + 1)))
    (hsrc : C → src.view.read (Elt F) fs = src₀)
    (hno : ¬ C → ∀ x : S1024.Idx, appendAt num start src₀ (base + BitVec.ofNat 32 (x 0).val) (old x) = old x) :
    iprop((src.view.loc thr ↦{q} fs) ∗ (dst.view.loc thr ↦{fullShare} g₀))
      ⊢ iprop((((src.view.loc thr ↦{q} fs) ∗ ∃ g, ⌜dst.view.read (Elt F) g = mixed num start base src₀ old 1024⌝ ∗ (dst.view.loc thr ↦{fullShare} g))
          -∗ wp frame (wpE (defs₀ (F := F)) 𝒱₀ thr none) Set.univ rest Q)
        -∗ wp frame (wpE (defs₀ (F := F)) 𝒱₀ thr none) Set.univ
            (if hc : C then Scf.Loop.for k0_t1_loop hok ⟨⟩ (body hc) >>= fun _ => rest else rest) Q) := by
  by_cases hc : C
  · rw [dif_pos hc]
    have hrun := Scf.wp_for_bind frame (wpE (defs₀ (F := F)) 𝒱₀ thr none) Set.univ k0_t1_loop.lb k0_t1_loop.ub k0_t1_loop.st hok ⟨⟩ (body hc)
      (fun n _ => midway thr src dst num start base q fs old (16 * n)) (hbody hc) (kk := fun _ => rest) (Q := Q)
    iintro ⟨Hs, Hd⟩ Hk
    iapply hrun $$ [Hs Hd]
    · unfold midway
      isplitl [Hs]; · iexact Hs
      iexists g₀
      isplitr [Hd]; swap
      · iexact Hd
      ipureintro
      rw [Nat.mul_zero, mixed_zero, hg₀]
    unfold midway
    iintro %_ ⟨Hs, %g, %hg, Hd⟩
    iapply Hk
    isplitl [Hs]; · iexact Hs
    iexists g
    isplitr [Hd]; swap
    · iexact Hd
    ipureintro
    rw [hg, hsrc hc]
    rfl
  · rw [dif_neg hc]
    iintro ⟨Hs, Hd⟩ Hk
    iapply Hk
    isplitl [Hs]; · iexact Hs
    iexists g₀
    isplitr [Hd]; swap
    · iexact Hd
    ipureintro
    rw [hg₀, mixed_full]
    exact funext fun x => (hno hc x).symm

end Cert.Proof.Append

end
-- ==== Proof.Window.lean ====
/-
  The kernel's words: the three numbers taken out of the packed vector, the test that a slice meets the window, and what
  that test says of the slice's elements.
-/
module

public import proofs.«01_k».proof.Proof.Trip

@[expose] public section

noncomputable section

namespace Cert.Proof.Append

open Idealize.ShloMosaic
open Cert.KernelIdeal Cert.KernelIdeal.Gen

variable {F : FTy → Type}

/-! ## A lane taken out of a vector -/

theorem maxui_zero (x : BitVec 32) : IntOp.maxui x 0#32 = x := by
  simp only [IntOp.maxui]
  split
  · rfl
  · next h =>
    apply BitVec.eq_of_toNat_eq
    simp only [BitVec.ult, decide_eq_true_eq, BitVec.toNat_ofNat] at h ⊢
    omega

theorem zero_maxui (x : BitVec 32) : IntOp.maxui 0#32 x = x := by
  simp only [IntOp.maxui]
  exact if_neg (by simp only [BitVec.ult, decide_eq_true_eq, BitVec.toNat_ofNat]; omega)

/-- The running maximum of a vector that is zero but at one lane ends at that lane's word. -/
theorem scan_single (w : IVec S16 32) (k : Nat) (hk : k < 16) (hw : ∀ x : S16.Idx, (x 0).val ≠ k → w x = 0#32) :
    scan .max w (laneIx 15 (by decide)) = w (laneIx k hk) := by
  have hl : ∀ l : List (Fin 16), ∀ r : BitVec 32,
      (r = 0#32 ∨ ∀ j ∈ l, j.val ≠ k) → l.Nodup →
      l.foldl (fun r (j : Fin 16) => ScanKind.step .max r (w (laneIx j.val j.isLt))) r
        = if (∃ j ∈ l, j.val = k) then w (laneIx k hk) else r := by
    intro l
    induction l with
    | nil => intro r _ _; simp
    | cons j l ih =>
      intro r hr hn
      obtain ⟨hn1, hn2⟩ := List.nodup_cons.mp hn
      rw [List.foldl_cons]
      by_cases hj : j.val = k
      · have hr0 : r = 0#32 := hr.resolve_right fun h => h j List.mem_cons_self hj
        have hno : ∀ j' ∈ l, j'.val ≠ k := fun j' hj' h => hn1 (by rwa [show j = j' from Fin.ext (hj.trans h.symm)])
        rw [ih _ (Or.inr hno) hn2, if_neg (by rintro ⟨j', h1, h2⟩; exact hno j' h1 h2), if_pos ⟨j, List.mem_cons_self, hj⟩]
        subst hr0 hj
        exact zero_maxui _
      · have h0 : ScanKind.step .max r (w (laneIx j.val j.isLt)) = r := by
          rw [hw (laneIx j.val j.isLt) hj]; exact maxui_zero r
        rw [h0, ih r (hr.imp_right fun h j' hj' => h j' (List.mem_cons_of_mem _ hj')) hn2]
        simp [hj]
  have h0 : scan .max w (laneIx 15 (by decide))
      = ((List.finRange 16).filter fun j : Fin 16 => decide (0 < j.val ∧ j.val ≤ 15)).foldl
          (fun r (j : Fin 16) => ScanKind.step .max r (w (laneIx j.val j.isLt))) (w (laneIx 0 (by decide))) := by
    have e : ∀ j : Fin 16, (Shape.ofLane j : S16.Idx) = laneIx j.val j.isLt := fun j => funext fun a => by match a with | 0 => rfl
    show List.foldl (fun r (j : Fin 16) => ScanKind.step .max r (w (Shape.ofLane j))) (w (Shape.ofLane (⟨0, by decide⟩ : Fin 16))) _ = _
    simp only [e]
    rfl
  rw [h0]
  by_cases hk0 : k = 0
  · subst hk0
    rw [hl _ _ (Or.inr fun j hj => by simp at hj; omega) ((List.nodup_finRange 16).filter _), if_neg (by simp)]
  · rw [hl _ _ (Or.inl (hw _ (by show (0:Nat) ≠ k; omega))) ((List.nodup_finRange 16).filter _), if_pos ⟨⟨k, hk⟩, by simp only [List.mem_filter, List.mem_finRange, decide_eq_true_eq, true_and]; exact ⟨Nat.pos_of_ne_zero hk0, Nat.le_of_lt_succ hk⟩, rfl⟩]

/-- Lane `k` of `v`, all other lanes the least word, the sign bits turned over before and after a running maximum. -/
theorem take_lane (v : Vec F S16 .i32) (k : Nat) (hk : k < 16) (c : BitVec 32) (hc : c = BitVec.ofNat 32 k) :
    extractAt ![15] (xori (scan .max (xori (select (cmpi .eq lanes (broadcast S16 c)) v k0_pay1) (broadcast S16 2147483648#32)))
      (broadcast S16 2147483648#32)) inpos_S16_p15 = v (laneIx k hk) := by
  have hx : ∀ x : S16.Idx, select (cmpi .eq lanes (broadcast S16 c)) v k0_pay1 x = if (x 0).val = k then v x else 2147483648#32 := by
    intro x
    have hl : lanes x = BitVec.ofNat 32 (x 0).val := by simp [lanes, iota]
    have hx16 : (x 0).val < 16 := (x 0).isLt
    show Scalar.select (IntOp.cmpi .eq (lanes x) c) (v x) 2147483648#32 = _
    rw [hl, hc]
    by_cases h : (x 0).val = k
    · rw [if_pos h, h]
      exact if_pos (by simp [IntOp.cmpi])
    · rw [if_neg h]
      refine if_neg ?_
      have : ¬ (BitVec.ofNat 32 (x 0).val = BitVec.ofNat 32 k) := by
        intro e
        have := congrArg BitVec.toNat e
        simp only [BitVec.toNat_ofNat] at this
        omega
      show ¬ BitVec.ofBool (BitVec.ofNat 32 (x 0).val == BitVec.ofNat 32 k) = 1#1
      rw [beq_eq_false_iff_ne.mpr this]
      decide
  have hs : extractAt ![15] (xori (scan .max (xori (select (cmpi .eq lanes (broadcast S16 c)) v k0_pay1) (broadcast S16 2147483648#32)))
        (broadcast S16 2147483648#32)) inpos_S16_p15
      = IntOp.xori (scan .max (xori (select (cmpi .eq lanes (broadcast S16 c)) v k0_pay1) (broadcast S16 2147483648#32)) (laneIx 15 (by decide))) 2147483648#32 := by
    have e : (fun a => ⟨(![15] : Fin 1 → Nat) a, inpos_S16_p15 a⟩ : S16.Idx) = laneIx 15 (by decide) := funext fun a => by match a with | 0 => rfl
    rw [← e]
    rfl
  rw [hs, scan_single _ k hk]
  · show IntOp.xori (IntOp.xori (select _ v k0_pay1 (laneIx k hk)) 2147483648#32) 2147483648#32 = _
    rw [hx, if_pos (show (laneIx k hk 0).val = k from rfl)]
    simp only [IntOp.xori]
    rw [BitVec.xor_assoc, BitVec.xor_self, BitVec.xor_zero]
  · intro x h
    show IntOp.xori (select _ v k0_pay1 x) 2147483648#32 = _
    rw [hx, if_neg h]
    decide

theorem take_num (v : Vec F S16 .i32) : extractAt ![15] (k0_pay2 v) inpos_S16_p15 = v (laneIx 0 (by decide)) :=
  take_lane v 0 (by decide) 0#32 rfl
theorem take_startG (v : Vec F S16 .i32) : extractAt ![15] (k0_pay5 k0_pay3 (k0_pay4 v)) inpos_S16_p15 = v (laneIx 1 (by decide)) :=
  take_lane v 1 (by decide) 1#32 rfl
theorem take_startQ (v : Vec F S16 .i32) : extractAt ![15] (k0_pay6 v lanes k0_pay1) inpos_S16_p15 = v (laneIx 2 (by decide)) :=
  take_lane v 2 (by decide) 2#32 rfl

/-! ## The slice's test -/

theorem test_iff (b : BitVec 1) : Scalar.cmpi .ne (Scalar.extui b : BitVec 32) 0#32 = 1#1 ↔ b = 1#1 := by
  revert b; decide

theorem or_iff (a b : BitVec 1) : Scalar.ori a b = 1#1 ↔ a = 1#1 ∨ b = 1#1 := by
  revert a b; decide

/-- The slice of 1024 elements at `base` may meet the window. -/
def meets (base num start : BitVec 32) : BitVec 1 :=
  Scalar.andi (Scalar.cmpi .sgt (Scalar.addi base 1024#32) start) (Scalar.cmpi .slt base (Scalar.addi start num))

/-- A subcore's first element. -/
def baseW (L : grid0.Coords) : BitVec 32 :=
  Scalar.muli (Scalar.addi (Scalar.muli (BitVec.ofNat 32 (L 1).val) 2#32) (BitVec.ofNat 32 (L 0).val)) 1024#32

theorem baseW_toNat (L : grid0.Coords) : (baseW L).toNat = 1024 * ((L 0).val + 2 * (L 1).val) := by
  have h0 : (L 0).val < 2 := (L 0).isLt
  have h1 : (L 1).val < 16 := (L 1).isLt
  simp only [baseW, Scalar.muli, Scalar.addi, IntOp.muli, IntOp.addi, BitVec.toNat_mul, BitVec.toNat_add, BitVec.toNat_ofNat]
  omega

theorem cond5_iff (L : grid0.Coords) (num start : BitVec 32) : k0_cond5 L num start = 1#1 ↔ meets (baseW L) num start = 1#1 := test_iff _
theorem cond6_iff (L : grid0.Coords) (num start : BitVec 32) : k0_cond6 L num start = 1#1 ↔ meets (baseW L) num start = 1#1 := test_iff _
theorem cond7_iff (L : grid0.Coords) (num start : BitVec 32) : k0_cond7 L num start = 1#1 ↔ meets (baseW L) num start = 1#1 := test_iff _
theorem cond8_iff (L : grid0.Coords) (num start : BitVec 32) : k0_cond8 L num start = 1#1 ↔ meets (baseW L) num start = 1#1 := test_iff _

theorem and_ofBool (b c : Bool) : IntOp.andi (BitVec.ofBool b) (BitVec.ofBool c) = 1#1 ↔ b = true ∧ c = true := by
  revert b c; decide

/-- Where the test fails, every element of the slice stays what it was. -/
theorem appendAt_of_not_meets (base num start : BitVec 32) (hb : base.toNat ≤ 31744) (h : ¬ meets base num start = 1#1)
    (src : S2048.Idx → BitVec 32) (n : Nat) (hn : n < 1024) (old : BitVec 32) :
    appendAt num start src (base + BitVec.ofNat 32 n) old = old := by
  have hw : ¬ inWindow num start (base + BitVec.ofNat 32 n) = 1#1 := by
    intro hw
    apply h
    simp only [inWindow, meets, Scalar.andi, Scalar.cmpi, Scalar.addi, IntOp.cmpi, IntOp.addi] at hw ⊢
    rw [and_ofBool] at hw ⊢
    generalize start + num = stop at *
    have h1 : (base + 1024#32).toNat = base.toNat + 1024 := by rw [BitVec.toNat_add, BitVec.toNat_ofNat]; omega
    have h2 : (base + BitVec.ofNat 32 n).toNat = base.toNat + n := by rw [BitVec.toNat_add, BitVec.toNat_ofNat]; omega
    generalize base + 1024#32 = hi at *
    generalize base + BitVec.ofNat 32 n = w at *
    simp only [BitVec.slt_eq_decide, BitVec.sle_eq_decide, decide_eq_true_eq, BitVec.toInt_eq_toNat_cond] at hw ⊢
    split_ifs at hw ⊢ <;> omega
  exact if_neg hw

end Cert.Proof.Append

end
-- ==== Proof.Numbers.lean ====
/-
  The three numbers read back out of the packed vector.
-/
module

public import proofs.«01_k».proof.Proof.Window
public import Idealize.ShloMosaic.Lib.Routing.OpsOne

@[expose] public section

noncomputable section

namespace Cert.Proof.Append

open Idealize.ShloMosaic
open Cert.KernelIdeal Cert.KernelIdeal.Gen

variable {F : FTy → Type}

/-- One number put at lane `k` of a vector. -/
theorem put_lane (x : S16.Idx → BitVec 32) (k : Nat) (hk : k < 16) (u : S_.Idx → BitVec 32) (n : Nat) (hn : n < 16) :
    Host.scatter scatter_S16_S1_S__n_0_0_0 (fun _ b => b) x
        (broadcastInDim S1 ![] bcast_S_S1 (constantI S_ 32 (BitVec.ofNat 32 k))) u (laneIx n hn)
      = if n = k then u (fun a => a.elim0) else x (laneIx n hn) := by
  have e : laneIx n hn = ValueIdx.ix1 (⟨n, hn⟩ : Fin 16) := funext fun a => by match a with | 0 => rfl
  rw [e]
  refine (Routing.scatter_one scatter_S16_S1_S__n_0_0_0 rfl rfl x _ u (⟨k, hk⟩ : Fin 16) (by show k < _; omega) rfl ⟨n, hn⟩).trans ?_
  have e0 : (ValueIdx.ix0 : S_.Idx) = fun a => a.elim0 := funext fun a => a.elim0
  simp only [Fin.mk.injEq, e0]

variable (m : (ℓ : Loc nD τ sig) → Buf (Elt F) ℓ) (d : Dev nD)

theorem nums_num : nums m d (laneIx 0 (by decide)) = num m d := by
  unfold nums packed
  refine (put_lane _ 2 (by decide) _ 0 (by decide)).trans ?_
  rw [if_neg (by decide)]
  refine (put_lane _ 1 (by decide) _ 0 (by decide)).trans ?_
  rw [if_neg (by decide)]
  exact (put_lane _ 0 (by decide) _ 0 (by decide)).trans (if_pos rfl)

theorem nums_startG : nums m d (laneIx 1 (by decide)) = startG m d := by
  unfold nums packed
  refine (put_lane _ 2 (by decide) _ 1 (by decide)).trans ?_
  rw [if_neg (by decide)]
  exact (put_lane _ 1 (by decide) _ 1 (by decide)).trans (if_pos rfl)

theorem nums_startQ : nums m d (laneIx 2 (by decide)) = startQ m d := by
  unfold nums packed
  exact (put_lane _ 2 (by decide) _ 2 (by decide)).trans (if_pos rfl)

end Cert.Proof.Append

end
-- ==== Proof.Cells.lean ====
/-
  What one vector subcore uses of the kernel's call: its buffers, its transfer cells, its slices of the arrays.
-/
module

public import proofs.«01_k».proof.Proof.Numbers

@[expose] public section

noncomputable section

namespace Cert.Proof.Append

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The buffers and the cells of a subcore -/

/-- The arrays as a vector subcore names them, -/
abbrev newA : Memref sig .scVector .hbm S2048 .i32 := Memref.whole main_arg0_scv
abbrev newB : Memref sig .scVector .hbm S2048 .i32 := Memref.whole main_arg1_scv
abbrev dst0 : Memref sig .scVector .hbm S32768 .i32 := Memref.whole main_arg3_scv
abbrev dst1 : Memref sig .scVector .hbm S32768 .i32 := Memref.whole main_arg4_scv
abbrev dst2 : Memref sig .scVector .hbm S32768 .i32 := Memref.whole main_arg6_scv
abbrev dst3 : Memref sig .scVector .hbm S32768 .i32 := Memref.whole main_arg7_scv
abbrev numsV : Memref sig .scVector .hbm S16 .i32 := Memref.whole main_v7_scv
abbrev out0 : Memref sig .scVector .hbm S32768 .i32 := Memref.whole main_v8_0_scv
abbrev out1 : Memref sig .scVector .hbm S32768 .i32 := Memref.whole main_v8_1_scv
abbrev out2 : Memref sig .scVector .hbm S32768 .i32 := Memref.whole main_v8_2_scv
abbrev out3 : Memref sig .scVector .hbm S32768 .i32 := Memref.whole main_v8_3_scv
/-- and its scratch: the packed numbers, the two source arrays, a slice of each destination. -/
abbrev sN : Memref sig .scVector .vmem S16 .i32 := Memref.whole cc0_scratch0
abbrev sA : Memref sig .scVector .vmem S2048 .i32 := Memref.whole cc0_scratch1
abbrev sB : Memref sig .scVector .vmem S2048 .i32 := Memref.whole cc0_scratch2
abbrev s0 : Memref sig .scVector .vmem S1024 .i32 := Memref.whole cc0_scratch3
abbrev s1 : Memref sig .scVector .vmem S1024 .i32 := Memref.whole cc0_scratch4
abbrev s2 : Memref sig .scVector .vmem S1024 .i32 := Memref.whole cc0_scratch5
abbrev s3 : Memref sig .scVector .vmem S1024 .i32 := Memref.whole cc0_scratch6

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The subcore's number. -/
abbrev widL (L : grid0.Coords) : Fin 32 := wid (Fin.cast bound_zero (L 0)) (Fin.cast bound_one (L 1))

/-- The subcore's slice of a destination array, and of a result. -/
abbrev inSl (a : Memref sig .scVector .hbm S32768 .i32) (L : grid0.Coords) : Memref sig .scVector .hbm S1024 .i32 :=
  a.slice (Rect.unit (s := S32768) (k0_off1 L) S1024.size (k0_off1_inb L)) (fun _ => rfl)
abbrev outSl (a : Memref sig .scVector .hbm S32768 .i32) (L : grid0.Coords) : Memref sig .scVector .hbm S1024 .i32 :=
  a.slice (Rect.unit (s := S32768) (k0_off2 L) S1024.size (k0_off2_inb L)) (fun _ => rfl)

/-- The subcore's transfer cells: for the packed numbers, for the two source arrays, for the four slices in and for the
    four slices out. -/
abbrev cN : DmaSem sig := cc0_scratch7.sem
abbrev cA : DmaSem sig := ((cc0_scratch8.slice (Rect.unit (s := S2) ![0] S1.size inb_S2_S1_0)).squeeze S_ squeezes_S1_S_).sem
abbrev cB : DmaSem sig := ((cc0_scratch8.slice (Rect.unit (s := S2) ![1] S1.size inb_S2_S1_1)).squeeze S_ squeezes_S1_S_).sem
abbrev ci0 : DmaSem sig := ((cc0_scratch9.slice (Rect.unit (s := S4) ![0] S1.size inb_S4_S1_0)).squeeze S_ squeezes_S1_S_).sem
abbrev ci1 : DmaSem sig := ((cc0_scratch9.slice (Rect.unit (s := S4) ![1] S1.size inb_S4_S1_1)).squeeze S_ squeezes_S1_S_).sem
abbrev ci2 : DmaSem sig := ((cc0_scratch9.slice (Rect.unit (s := S4) ![2] S1.size inb_S4_S1_2)).squeeze S_ squeezes_S1_S_).sem
abbrev ci3 : DmaSem sig := ((cc0_scratch9.slice (Rect.unit (s := S4) ![3] S1.size inb_S4_S1_3)).squeeze S_ squeezes_S1_S_).sem
abbrev co0 : DmaSem sig := ((cc0_scratch10.slice (Rect.unit (s := S4) ![0] S1.size inb_S4_S1_0)).squeeze S_ squeezes_S1_S_).sem
abbrev co1 : DmaSem sig := ((cc0_scratch10.slice (Rect.unit (s := S4) ![1] S1.size inb_S4_S1_1)).squeeze S_ squeezes_S1_S_).sem
abbrev co2 : DmaSem sig := ((cc0_scratch10.slice (Rect.unit (s := S4) ![2] S1.size inb_S4_S1_2)).squeeze S_ squeezes_S1_S_).sem
abbrev co3 : DmaSem sig := ((cc0_scratch10.slice (Rect.unit (s := S4) ![3] S1.size inb_S4_S1_3)).squeeze S_ squeezes_S1_S_).sem

abbrev thr (d : Dev nD) (L : grid0.Coords) : Thread nD τ := V d (cV L) (jV L)

/-- The eleven cells, none of them mid-flight. -/
def cells0 : sProp 𝕄 :=
  iprop(semVal (thr d L, .dma cN) 0 ∗ semVal (thr d L, .dma cA) 0 ∗ semVal (thr d L, .dma cB) 0
    ∗ semVal (thr d L, .dma ci0) 0 ∗ semVal (thr d L, .dma ci1) 0 ∗ semVal (thr d L, .dma ci2) 0 ∗ semVal (thr d L, .dma ci3) 0
    ∗ semVal (thr d L, .dma co0) 0 ∗ semVal (thr d L, .dma co1) 0 ∗ semVal (thr d L, .dma co2) 0 ∗ semVal (thr d L, .dma co3) 0)

/-- The seven scratch buffers, holding anything. -/
def scratch : sProp 𝕄 :=
  iprop((∃ f, sN.view.loc (thr d L) ↦{fullShare} f) ∗ (∃ f, sA.view.loc (thr d L) ↦{fullShare} f) ∗ (∃ f, sB.view.loc (thr d L) ↦{fullShare} f)
    ∗ (∃ f, s0.view.loc (thr d L) ↦{fullShare} f) ∗ (∃ f, s1.view.loc (thr d L) ↦{fullShare} f)
    ∗ (∃ f, s2.view.loc (thr d L) ↦{fullShare} f) ∗ (∃ f, s3.view.loc (thr d L) ↦{fullShare} f))

/-- A `bigSep` over the elements of a list without repetitions is their conjunction. -/
theorem bigSep_list {I : Type} [DecidableEq I] (Φ : I → sProp 𝕄) : ∀ (l : List I) (a : I), (a :: l).Nodup →
    bigSep (a :: l).toFinset Φ = l.foldr (fun b rest (x : sProp 𝕄) => iprop(x ∗ rest (Φ b))) (fun x => x) (Φ a)
  | [], a, _ => by simp [bigSep_singleton]
  | b :: l, a, h => by
    rw [List.toFinset_cons, SparseCore.bigSep_insert' (by simpa using (List.nodup_cons.mp h).1), bigSep_list Φ l b (List.nodup_cons.mp h).2]
    rfl

/-- The DMA cells of a subcore, in order. -/
def dmaCells : List (DmaSem sig) := [cN, cA, cB, ci0, ci1, ci2, ci3, co0, co1, co2, co3]
def scratchRefs : List (Ref sig .scVector) := [cc0_scratch0, cc0_scratch1, cc0_scratch2, cc0_scratch3, cc0_scratch4, cc0_scratch5, cc0_scratch6]

theorem dmaCells_nodup : dmaCells.Nodup := by decide
theorem scratchRefs_nodup : scratchRefs.Nodup := by decide
theorem dma_scoped (k : DmaSem sig) : (SemLoc.dma k : SemLoc sig).isScoped .scVector = true := by revert k; decide

/-- The cells a subcore owns are those eleven and others it does not touch. -/
theorem ownSems0_tile :
    (ownSems0 (thr d L) : sProp 𝕄) = iprop(cells0 d L ∗ bigSep (ownCells (thr d L) \ dmaCells.toFinset.image fun k => ((thr d L, .dma k) : GSem nD τ sig)) fun g => semVal g 0) := by
  unfold SparseCore.Cfg.ownSems0
  refine (SparseCore.bigSep_sdiff_split' (t := dmaCells.toFinset.image fun k => ((thr d L, .dma k) : GSem nD τ sig)) (by
    intro g hg
    obtain ⟨k, -, rfl⟩ := Finset.mem_image.mp hg
    exact mem_ownCells.mpr ⟨rfl, dma_scoped k⟩)).trans ?_
  rw [SparseCore.bigSep_image_of_injOn (fun a _ b _ e => by simpa using e), dmaCells, bigSep_list _ _ _ dmaCells_nodup]
  rfl

/-- The scratch buffers a subcore owns are those seven and others it does not touch. -/
theorem ownBufs_tile :
    (ownBufs (thr d L) : sProp 𝕄) = iprop(scratch d L
      ∗ bigSep (ownRefs (τ := τ) (sig := sig) (.scVector (cV L) (jV L)) \ scratchRefs.toFinset.image (Proc.scVector (cV L) (jV L)).devRef)
          fun b => iprop(∃ f, ((d, b) : Loc nD τ sig) ↦{fullShare} f)) := by
  unfold SparseCore.Cfg.ownBufs
  refine (SparseCore.bigSep_sdiff_split' (t := scratchRefs.toFinset.image (Proc.scVector (cV L) (jV L)).devRef) (by
    intro b hb
    obtain ⟨r, hr, rfl⟩ := Finset.mem_image.mp hb
    refine SparseCore.Cfg.mem_ownRefs_of_owner ?_
    simp only [scratchRefs, List.mem_toFinset, List.mem_cons, List.not_mem_nil, or_false] at hr
    rcases hr with rfl | rfl | rfl | rfl | rfl | rfl | rfl <;> rfl)).trans ?_
  rw [SparseCore.bigSep_image_of_injOn (fun a _ b _ e => Proc.devRef_injective _ e), scratchRefs, bigSep_list _ _ _ scratchRefs_nodup]
  rfl

theorem widL_val : (widL L).val = (L 0).val + 2 * (L 1).val := wid_val _ _

/-- The subcore's slice is its part of the array. -/
theorem inRect_eq : Rect.unit (s := S32768) (k0_off1 L) S1024.size (k0_off1_inb L) = Rect.part (s := S32768) (a₀ := 0) slices (widL L) := by
  unfold Rect.part Rect.block
  congr 1 <;> funext a
  · rw [k0_off1_eq]
    match a with
    | 0 => have := widL_val L; simp [Shape.partIx, Shape.partSize]; omega
  · match a with
    | 0 => simp [Shape.partSize]

theorem outRect_eq : Rect.unit (s := S32768) (k0_off2 L) S1024.size (k0_off2_inb L) = Rect.part (s := S32768) (a₀ := 0) slices (widL L) := by
  unfold Rect.part Rect.block
  congr 1 <;> funext a
  · rw [k0_off2_eq]
    match a with
    | 0 => have := widL_val L; simp [Shape.partIx, Shape.partSize]; omega
  · match a with
    | 0 => simp [Shape.partSize]

theorem set_in0 : (inSl dst0 L).view.set = sliceSet (widL L) := by
  show ((View.whole main_arg3_scv).slice _).set = _
  rw [View.set_slice, inRect_eq]; exact Finset.map_refl
theorem set_in1 : (inSl dst1 L).view.set = sliceSet (widL L) := by
  show ((View.whole main_arg4_scv).slice _).set = _
  rw [View.set_slice, inRect_eq]; exact Finset.map_refl
theorem set_in2 : (inSl dst2 L).view.set = sliceSet (widL L) := by
  show ((View.whole main_arg6_scv).slice _).set = _
  rw [View.set_slice, inRect_eq]; exact Finset.map_refl
theorem set_in3 : (inSl dst3 L).view.set = sliceSet (widL L) := by
  show ((View.whole main_arg7_scv).slice _).set = _
  rw [View.set_slice, inRect_eq]; exact Finset.map_refl
theorem set_out0 : (outSl out0 L).view.set = sliceSet (widL L) := by
  show ((View.whole main_v8_0_scv).slice _).set = _
  rw [View.set_slice, outRect_eq]; exact Finset.map_refl
theorem set_out1 : (outSl out1 L).view.set = sliceSet (widL L) := by
  show ((View.whole main_v8_1_scv).slice _).set = _
  rw [View.set_slice, outRect_eq]; exact Finset.map_refl
theorem set_out2 : (outSl out2 L).view.set = sliceSet (widL L) := by
  show ((View.whole main_v8_2_scv).slice _).set = _
  rw [View.set_slice, outRect_eq]; exact Finset.map_refl
theorem set_out3 : (outSl out3 L).view.set = sliceSet (widL L) := by
  show ((View.whole main_v8_3_scv).slice _).set = _
  rw [View.set_slice, outRect_eq]; exact Finset.map_refl

end Tile

end Cert.Proof.Append

end
-- ==== Proof.Moves.lean ====
/-
  A trip of each of the four rewriting loops; and what the copies of a subcore's run leave: a scratch buffer that holds
  what was copied in, a slice of a result that holds what was copied out.
-/
module

public import proofs.«01_k».proof.Proof.Cells

@[expose] public section

noncomputable section

namespace Cert.Proof.Append

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (m : (ℓ : Loc nD τ sig) → Buf (Elt F) ℓ)

/-- A scratch buffer copied into where a test holds: it holds the copied array if the test holds. -/
theorem fetched (thr : Thread nD τ) (b : Memref sig thr.2.kind .vmem S2048 .i32) {C : Prop} [Decidable C]
    (f : Buf (Elt F) (b.view.loc thr)) (v : Vec F S2048 .i32) (w : S2048.Idx → BitVec 32) (hv : v = w) :
    (b.view.loc thr ↦{fullShare} (if _hc : C then View.write (Elt F) b.view f v Finset.univ else f) : sProp 𝕄)
      ⊢ iprop(∃ g, ⌜C → b.view.read (Elt F) g = w⌝ ∗ (b.view.loc thr ↦{fullShare} g)) := by
  iintro H
  iexists (if _hc : C then View.write (Elt F) b.view f v Finset.univ else f)
  isplitr [H]; swap
  · iexact H
  ipureintro
  intro hc
  rw [dif_pos hc, View.read_write_univ, hv]

/-- A scratch buffer copied into: it holds the copied slice. -/
theorem landed (thr : Thread nD τ) (b : Memref sig thr.2.kind .vmem S1024 .i32) (f : Buf (Elt F) (b.view.loc thr))
    (v w : Vec F S1024 .i32) (hv : v = w) :
    (b.view.loc thr ↦{fullShare} View.write (Elt F) b.view f v Finset.univ : sProp 𝕄)
      ⊢ iprop(∃ g, ⌜b.view.read (Elt F) g = w⌝ ∗ (b.view.loc thr ↦{fullShare} g)) := by
  iintro H
  iexists (View.write (Elt F) b.view f v Finset.univ)
  isplitr [H]; swap
  · iexact H
  ipureintro
  rw [View.read_write_univ, hv]

/-- The packed numbers, copied in and loaded. -/
theorem read_numbers (f : sN.view.ty.Contents (Elt F)) (w : S16.Idx → BitVec 32) (n : Nat) (hn : n < 16) :
    sN.view.readAt (Elt F) (Rect.unit (s := S16) ![0] S16.size inb_S16_S16_0).toLoadRect (View.write (Elt F) sN.view f w Finset.univ) (laneIx n hn)
      = w (laneIx n hn) := by
  rw [View.readAt_apply, View.read_write_univ]
  congr 1
  funext a
  apply Fin.ext
  match a with
  | 0 => show 0 + 1 * n = n; omega

/-- A test that fails leaves its slice as it is. -/
theorem untouched (L : grid0.Coords) (num start : BitVec 32) (h : ¬ meets (baseW L) num start = 1#1) (src : S2048.Idx → BitVec 32)
    (old : S1024.Idx → BitVec 32) (x : S1024.Idx) : appendAt num start src (baseW L + BitVec.ofNat 32 (x 0).val) (old x) = old x := by
  have h0 : (L 0).val < 2 := (L 0).isLt
  have h1 : (L 1).val < 16 := (L 1).isLt
  exact appendAt_of_not_meets (baseW L) num start (by rw [baseW_toNat]; omega) h src _ (x 0).isLt _

section Tile

variable (d : Dev nD) (L : grid0.Coords)

/-- Element `x` of the subcore's slice, as an element of the whole array. -/
def whole (x : S1024.Idx) : S32768.Idx := (Rect.unit (s := S32768) (k0_off1 L) S1024.size (k0_off1_inb L)).emb x

theorem whole_out (x : S1024.Idx) : (Rect.unit (s := S32768) (k0_off2 L) S1024.size (k0_off2_inb L)).emb x = whole L x := by
  have e : k0_off2 L = k0_off1 L := by rw [k0_off1_eq, k0_off2_eq]
  funext a
  apply Fin.ext
  show k0_off2 L a + 1 * (x a).val = k0_off1 L a + 1 * (x a).val
  rw [e]

/-- Its place is the subcore's first word and `x` more. -/
theorem whole_word (x : S1024.Idx) : BitVec.ofNat 32 (whole L x 0).val = baseW L + BitVec.ofNat 32 (x 0).val := by
  have h0 : (L 0).val < 2 := (L 0).isLt
  have h1 : (L 1).val < 16 := (L 1).isLt
  have hx : (x 0).val < 1024 := (x 0).isLt
  have e : (whole L x 0).val = 1024 * ((L 0).val + 2 * (L 1).val) + (x 0).val := by
    show k0_off1 L 0 + 1 * (x 0).val = _
    rw [k0_off1_eq]
    simp
    omega
  apply BitVec.eq_of_toNat_eq
  rw [BitVec.toNat_add, baseW_toNat, e, BitVec.toNat_ofNat, BitVec.toNat_ofNat]
  omega

/-- A slice wholly rewritten is the subcore's slice of the appended array. -/
theorem mixed_whole (num start : BitVec 32) (src : S2048.Idx → BitVec 32) (dst : S32768.Idx → BitVec 32) (x : S1024.Idx) :
    mixed num start (baseW L) src (fun y => dst (whole L y)) 1024 x = appended num start src dst (whole L x) := by
  rw [mixed_full, appended, whole_word]

/-- A slice of a result, copied out, holds what an array says that agrees with the copied slice there. -/
theorem sent (a : Memref sig .scVector .hbm S32768 .i32) (f res : Buf (Elt F) (a.view.loc (thr d L))) (w : Vec F S1024 .i32)
    (hw : ∀ x, a.view.read (Elt F) res (whole L x) = w x) :
    ((outSl a L).view.loc (thr d L) ↦[(outSl a L).view.set]{fullShare} (outSl a L).view.writes (Elt F) f [⟨Rect.whole S1024, w⟩] : sProp 𝕄)
      = ((outSl a L).view.loc (thr d L) ↦[(outSl a L).view.set]{fullShare} res) := by
  refine pointsTo_congr fun i hi => ?_
  obtain ⟨x, -, rfl⟩ := Finset.mem_map.mp hi
  have e1 := View.read_writes_cons_emb (outSl a L).view (f := f) (Rect.whole S1024) w [] x
  rw [Rect.emb_whole_apply, ← hw x, ← whole_out] at e1
  exact (cast_inj _).mp e1

/-- Waiting on one cell more keeps that all the waits but the first ones have no round. -/
theorem free_insert {W W' : Waits sig (HIx 1)} {s : SemLoc sig} (h : ∀ p ∈ W', p ∈ W ∨ p.2 = none) :
    ∀ p ∈ insert (s, default) W', p ∈ W ∨ p.2 = none := by
  intro p hp
  rcases Finset.mem_insert.mp hp with hp | hp
  · exact .inr (hp ▸ rfl)
  · exact h p hp

variable [FloatOps F]

/-- A trip of the first slice's loop. -/
theorem trip1 (base num startG startQ : BitVec 32) (b1 b2 b3 b4 b5 : BitVec 1) (fs : Buf (Elt F) (sA.view.loc (thr d L))) (old : Vec F S1024 .i32)
    (hc : k0_cond5 L num startG = 1#1) (t : Fin k0_t1_loop.trips) (u : Unit) :
    midway (thr d L) sA s0 num startG base fullShare fs old (16 * t.val)
      ⊢ wp frame (wpE (defs₀ (F := F)) 𝒱₀ (thr d L) none) Set.univ
        (k0_t1_body L newA (Memref.isWhole_whole _) newB (Memref.isWhole_whole _) dst0 (Memref.isWhole_whole _) dst1 (Memref.isWhole_whole _)
          dst2 (Memref.isWhole_whole _) dst3 (Memref.isWhole_whole _) numsV (Memref.isWhole_whole _) out0 (Memref.isWhole_whole _)
          out1 (Memref.isWhole_whole _) out2 (Memref.isWhole_whole _) out3 (Memref.isWhole_whole _) sN (Memref.isWhole_whole _)
          sA (Memref.isWhole_whole _) sB (Memref.isWhole_whole _) s0 (Memref.isWhole_whole _) s1 (Memref.isWhole_whole _)
          s2 (Memref.isWhole_whole _) s3 (Memref.isWhole_whole _) cc0_scratch7 cc0_scratch8 cc0_scratch9 cc0_scratch10 base lanes num startG startQ b1 b2 b3 b4 b5 hc t u)
        fun _ => midway (thr d L) sA s0 num startG base fullShare fs old (16 * (t.val + 1)) := by
  unfold k0_t1_body
  exact trip (thr d L) sA s0 num startG base t (k0_off3_eq t) (k0_off3_inb t) (fun _ => place_lt base startG t)
    (fun h => k0_idx1_inb L num startG _ h hc) _ _ _ _ fullShare fs old

/-- A trip of the second slice's loop. -/
theorem trip2 (base num startG startQ : BitVec 32) (b1 b2 b3 b4 b5 : BitVec 1) (fs : Buf (Elt F) (sB.view.loc (thr d L))) (old : Vec F S1024 .i32)
    (hc : k0_cond6 L num startG = 1#1) (t : Fin k0_t1_loop.trips) (u : Unit) :
    midway (thr d L) sB s1 num startG base fullShare fs old (16 * t.val)
      ⊢ wp frame (wpE (defs₀ (F := F)) 𝒱₀ (thr d L) none) Set.univ
        (k0_t2_body L newA (Memref.isWhole_whole _) newB (Memref.isWhole_whole _) dst0 (Memref.isWhole_whole _) dst1 (Memref.isWhole_whole _)
          dst2 (Memref.isWhole_whole _) dst3 (Memref.isWhole_whole _) numsV (Memref.isWhole_whole _) out0 (Memref.isWhole_whole _)
          out1 (Memref.isWhole_whole _) out2 (Memref.isWhole_whole _) out3 (Memref.isWhole_whole _) sN (Memref.isWhole_whole _)
          sA (Memref.isWhole_whole _) sB (Memref.isWhole_whole _) s0 (Memref.isWhole_whole _) s1 (Memref.isWhole_whole _)
          s2 (Memref.isWhole_whole _) s3 (Memref.isWhole_whole _) cc0_scratch7 cc0_scratch8 cc0_scratch9 cc0_scratch10 base lanes num startG startQ b1 b2 b3 b4 b5 hc t u)
        fun _ => midway (thr d L) sB s1 num startG base fullShare fs old (16 * (t.val + 1)) := by
  unfold k0_t2_body
  exact trip (thr d L) sB s1 num startG base t (k0_off4_eq t) (k0_off4_inb t) (fun _ => place_lt base startG t)
    (fun h => k0_idx2_inb L num startG _ h hc) _ _ _ _ fullShare fs old

/-- A trip of the third slice's loop. -/
theorem trip3 (base num startG startQ : BitVec 32) (b1 b2 b3 b4 b5 : BitVec 1) (fs : Buf (Elt F) (sA.view.loc (thr d L))) (old : Vec F S1024 .i32)
    (hc : k0_cond7 L num startQ = 1#1) (t : Fin k0_t1_loop.trips) (u : Unit) :
    midway (thr d L) sA s2 num startQ base fullShare fs old (16 * t.val)
      ⊢ wp frame (wpE (defs₀ (F := F)) 𝒱₀ (thr d L) none) Set.univ
        (k0_t3_body L newA (Memref.isWhole_whole _) newB (Memref.isWhole_whole _) dst0 (Memref.isWhole_whole _) dst1 (Memref.isWhole_whole _)
          dst2 (Memref.isWhole_whole _) dst3 (Memref.isWhole_whole _) numsV (Memref.isWhole_whole _) out0 (Memref.isWhole_whole _)
          out1 (Memref.isWhole_whole _) out2 (Memref.isWhole_whole _) out3 (Memref.isWhole_whole _) sN (Memref.isWhole_whole _)
          sA (Memref.isWhole_whole _) sB (Memref.isWhole_whole _) s0 (Memref.isWhole_whole _) s1 (Memref.isWhole_whole _)
          s2 (Memref.isWhole_whole _) s3 (Memref.isWhole_whole _) cc0_scratch7 cc0_scratch8 cc0_scratch9 cc0_scratch10 base lanes num startG startQ b1 b2 b3 b4 b5 hc t u)
        fun _ => midway (thr d L) sA s2 num startQ base fullShare fs old (16 * (t.val + 1)) := by
  unfold k0_t3_body
  exact trip (thr d L) sA s2 num startQ base t (k0_off5_eq t) (k0_off5_inb t) (fun _ => place_lt base startQ t)
    (fun h => k0_idx3_inb L num startQ _ h hc) _ _ _ _ fullShare fs old

/-- A trip of the fourth slice's loop. -/
theorem trip4 (base num startG startQ : BitVec 32) (b1 b2 b3 b4 b5 : BitVec 1) (fs : Buf (Elt F) (sB.view.loc (thr d L))) (old : Vec F S1024 .i32)
    (hc : k0_cond8 L num startQ = 1#1) (t : Fin k0_t1_loop.trips) (u : Unit) :
    midway (thr d L) sB s3 num startQ base fullShare fs old (16 * t.val)
      ⊢ wp frame (wpE (defs₀ (F := F)) 𝒱₀ (thr d L) none) Set.univ
        (k0_t4_body L newA (Memref.isWhole_whole _) newB (Memref.isWhole_whole _) dst0 (Memref.isWhole_whole _) dst1 (Memref.isWhole_whole _)
          dst2 (Memref.isWhole_whole _) dst3 (Memref.isWhole_whole _) numsV (Memref.isWhole_whole _) out0 (Memref.isWhole_whole _)
          out1 (Memref.isWhole_whole _) out2 (Memref.isWhole_whole _) out3 (Memref.isWhole_whole _) sN (Memref.isWhole_whole _)
          sA (Memref.isWhole_whole _) sB (Memref.isWhole_whole _) s0 (Memref.isWhole_whole _) s1 (Memref.isWhole_whole _)
          s2 (Memref.isWhole_whole _) s3 (Memref.isWhole_whole _) cc0_scratch7 cc0_scratch8 cc0_scratch9 cc0_scratch10 base lanes num startG startQ b1 b2 b3 b4 b5 hc t u)
        fun _ => midway (thr d L) sB s3 num startQ base fullShare fs old (16 * (t.val + 1)) := by
  unfold k0_t4_body
  exact trip (thr d L) sB s3 num startQ base t (k0_off6_eq t) (k0_off6_inb t) (fun _ => place_lt base startQ t)
    (fun h => k0_idx4_inb L num startQ _ h hc) _ _ _ _ fullShare fs old

end Tile

end Cert.Proof.Append

end
-- ==== Proof.Tile.lean ====
/-
  One vector subcore's run of the kernel, at a symbolic pair of a SparseCore and a subcore.
-/
module

public import proofs.«01_k».proof.Proof.Moves

@[expose] public section

noncomputable section

namespace Cert.Proof.Append

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

variable [FloatOps F]

set_option maxHeartbeats 4000000 in
/-- The subcore's run: from its read shares, its slices of the destinations and of the results, it terminates with the
    results' slices holding the appended arrays, its scratch and its cells as at the start, and nothing owed. -/
theorem tile_body (hF : (K (F := F)).Facts) (O : CellTallies nD τ sig (HIx 1)) (W : Waits sig (HIx 1)) (hO : ∀ g, O g none = 0) :
    iprop(levAts (K (F := F)).L (K (F := F)).lev ∗ emp ∗ tilePre m d (widL L) ∗ scopedBufs (thr d L) ∗ scopedSems0 (thr d L) ∗ owes (thr d L) O W)
      ⊢ wp frame (wpE (defs₀ (F := F)) 𝒱₀ (thr d L) none) Set.univ
          (cc0__sched_body L newA (Memref.isWhole_whole _) newB (Memref.isWhole_whole _) dst0 (Memref.isWhole_whole _) dst1 (Memref.isWhole_whole _)
            dst2 (Memref.isWhole_whole _) dst3 (Memref.isWhole_whole _) numsV (Memref.isWhole_whole _) out0 (Memref.isWhole_whole _)
            out1 (Memref.isWhole_whole _) out2 (Memref.isWhole_whole _) out3 (Memref.isWhole_whole _) sN (Memref.isWhole_whole _)
            sA (Memref.isWhole_whole _) sB (Memref.isWhole_whole _) s0 (Memref.isWhole_whole _) s1 (Memref.isWhole_whole _)
            s2 (Memref.isWhole_whole _) s3 (Memref.isWhole_whole _) cc0_scratch7 cc0_scratch8 cc0_scratch9 cc0_scratch10)
          fun _ => iprop(tilePost m d (widL L) ∗ scopedBufs (thr d L) ∗ scopedSems0 (thr d L)
            ∗ ∃ W', ⌜∀ p ∈ W', p ∈ W ∨ p.2 = none⌝ ∗ owes (thr d L) O W') := by
  simp only [cc0__sched_body_eq_skeleton]; unfold cc0__sched_body_skel
  simp only [k0_part1_eq_skeleton, k0_part2_eq_skeleton, k0_part3_eq_skeleton]
  rw [(K (F := F)).scopedBufs_V hF d (cV L) (jV L), SparseCore.Cfg.scopedSems0_V (Val := Elt F) d (cV L) (jV L), ownSems0_tile, ownBufs_tile]
  unfold cells0 scratch tilePre tileReads tileDests tileRes
  iintro ⟨#Hlv, -, ⟨⟨HA, HB, HN⟩, ⟨Hd0, Hd1, Hd2, Hd3⟩, ⟨Ho0, Ho1, Ho2, Ho3⟩⟩, ⟨⟨⟨%fN, HsN⟩, ⟨%fA, HsA⟩, ⟨%fB, HsB⟩, ⟨%f0, Hs0⟩, ⟨%f1, Hs1⟩, ⟨%f2, Hs2⟩, ⟨%f3, Hs3⟩⟩, Hbufs⟩, ⟨⟨HcN, HcA, HcB, Hci0, Hci1, Hci2, Hci3, Hco0, Hco1, Hco2, Hco3⟩, Hsems⟩, HO⟩
  ihave Hmw := (show levAts (K (F := F)).L (K (F := F)).lev ⊢ Transfers.MayWaits (thr d L) (default : HIx 1) O from
    (K (F := F)).mayWaits_none (thr := thr d L) hO) $$ Hlv
  ihave HA' := (Entails.of_eq (show (hb d main_arg0 ↦{tokq (widL L)} m (hb d main_arg0) : sProp 𝕄) = newA.view.loc (thr d L) ↦{tokq (widL L)} m (hb d main_arg0) from rfl)) $$ HA
  ihave HB' := (Entails.of_eq (show (hb d main_arg1 ↦{tokq (widL L)} m (hb d main_arg1) : sProp 𝕄) = newB.view.loc (thr d L) ↦{tokq (widL L)} m (hb d main_arg1) from rfl)) $$ HB
  ihave HN' := (Entails.of_eq (show (hb d main_v7 ↦{tokq (widL L)} nums m d : sProp 𝕄) = numsV.view.loc (thr d L) ↦{tokq (widL L)} nums m d from rfl)) $$ HN
  ihave Hd0' := (Entails.of_eq (show (hb d main_arg3 ↦[sliceSet (widL L)]{fullShare} m (hb d main_arg3) : sProp 𝕄) = (inSl dst0 L).view.loc (thr d L) ↦[(inSl dst0 L).view.set]{fullShare} m (hb d main_arg3) by rw [set_in0])) $$ Hd0
  ihave Hd1' := (Entails.of_eq (show (hb d main_arg4 ↦[sliceSet (widL L)]{fullShare} m (hb d main_arg4) : sProp 𝕄) = (inSl dst1 L).view.loc (thr d L) ↦[(inSl dst1 L).view.set]{fullShare} m (hb d main_arg4) by rw [set_in1])) $$ Hd1
  ihave Hd2' := (Entails.of_eq (show (hb d main_arg6 ↦[sliceSet (widL L)]{fullShare} m (hb d main_arg6) : sProp 𝕄) = (inSl dst2 L).view.loc (thr d L) ↦[(inSl dst2 L).view.set]{fullShare} m (hb d main_arg6) by rw [set_in2])) $$ Hd2
  ihave Hd3' := (Entails.of_eq (show (hb d main_arg7 ↦[sliceSet (widL L)]{fullShare} m (hb d main_arg7) : sProp 𝕄) = (inSl dst3 L).view.loc (thr d L) ↦[(inSl dst3 L).view.set]{fullShare} m (hb d main_arg7) by rw [set_in3])) $$ Hd3
  ihave Ho0' := (Entails.of_eq (show (hb d main_v8_0 ↦[sliceSet (widL L)]{fullShare} m (hb d main_v8_0) : sProp 𝕄) = (outSl out0 L).view.loc (thr d L) ↦[(outSl out0 L).view.set]{fullShare} m (hb d main_v8_0) by rw [set_out0])) $$ Ho0
  ihave Ho1' := (Entails.of_eq (show (hb d main_v8_1 ↦[sliceSet (widL L)]{fullShare} m (hb d main_v8_1) : sProp 𝕄) = (outSl out1 L).view.loc (thr d L) ↦[(outSl out1 L).view.set]{fullShare} m (hb d main_v8_1) by rw [set_out1])) $$ Ho1
  ihave Ho2' := (Entails.of_eq (show (hb d main_v8_2 ↦[sliceSet (widL L)]{fullShare} m (hb d main_v8_2) : sProp 𝕄) = (outSl out2 L).view.loc (thr d L) ↦[(outSl out2 L).view.set]{fullShare} m (hb d main_v8_2) by rw [set_out2])) $$ Ho2
  ihave Ho3' := (Entails.of_eq (show (hb d main_v8_3 ↦[sliceSet (widL L)]{fullShare} m (hb d main_v8_3) : sProp 𝕄) = (outSl out3 L).view.loc (thr d L) ↦[(outSl out3 L).view.set]{fullShare} m (hb d main_v8_3) by rw [set_out3])) $$ Ho3
  sl_exec
  have h31 : tile_body.sl.v31 m d L fN = num m d := by
    unfold tile_body.sl.v31
    exact (take_num _).trans ((read_numbers fN _ 0 (by decide)).trans (nums_num m d))
  have h40 : tile_body.sl.v40 m d L fN = startG m d := by
    unfold tile_body.sl.v40
    exact (take_startG _).trans ((read_numbers fN _ 1 (by decide)).trans (nums_startG m d))
  have h49 : tile_body.sl.v49 m d L fN = startQ m d := by
    unfold tile_body.sl.v49
    exact (take_startQ _).trans ((read_numbers fN _ 2 (by decide)).trans (nums_startQ m d))
  have hG : meets (baseW L) (tile_body.sl.v31 m d L fN) (tile_body.sl.v40 m d L fN) = 1#1 → tile_body.sl.v73 m d L fN = 1#1 :=
    fun h => (test_iff _).2 ((or_iff _ _).2 (Or.inl h))
  have hQ : meets (baseW L) (tile_body.sl.v31 m d L fN) (tile_body.sl.v49 m d L fN) = 1#1 → tile_body.sl.v73 m d L fN = 1#1 :=
    fun h => (test_iff _).2 ((or_iff _ _).2 (Or.inr h))
  ihave ⟨%gA, %hgA, HsA⟩ := (fetched (thr d L) sA fA (tile_body.sl.dma1 m d) (m (hb d main_arg0)) rfl) $$ HsA
  ihave ⟨%gB, %hgB, HsB⟩ := (fetched (thr d L) sB fB (tile_body.sl.dma1_1 m d) (m (hb d main_arg1)) rfl) $$ HsB
  ihave ⟨%g1, %hg1, Hs0⟩ := (landed (thr d L) s0 f0 (tile_body.sl.dma0_1 m d L) (fun y => m (hb d main_arg3) (whole L y)) rfl) $$ Hs0
  iapply (rewriting (thr d L) sA s0 (tile_body.sl.v31 m d L fN) (tile_body.sl.v40 m d L fN) (baseW L) k0_t1_ok _ _ _ fullShare gA
    (m (hb d main_arg0)) _ g1 hg1 (trip1 d L (baseW L) (tile_body.sl.v31 m d L fN) (tile_body.sl.v40 m d L fN) (tile_body.sl.v49 m d L fN) _ _ _ _ _ gA _)
    (fun h => hgA (hG ((cond5_iff L _ _).1 h))) (fun h => untouched L _ _ (mt (cond5_iff L _ _).2 h) _ _)) $$ [HsA Hs0]
  · isplitl [HsA]; · iexact HsA
    iexact Hs0
  iintro ⟨HsA, %e1, %he1, Hs0⟩
  sl_exec
  ihave ⟨%g2, %hg2, Hs1⟩ := (landed (thr d L) s1 f1 (tile_body.sl.dma0_2 m d L) (fun y => m (hb d main_arg4) (whole L y)) rfl) $$ Hs1
  iapply (rewriting (thr d L) sB s1 (tile_body.sl.v31 m d L fN) (tile_body.sl.v40 m d L fN) (baseW L) k0_t2_ok _ _ _ fullShare gB
    (m (hb d main_arg1)) _ g2 hg2 (trip2 d L (baseW L) (tile_body.sl.v31 m d L fN) (tile_body.sl.v40 m d L fN) (tile_body.sl.v49 m d L fN) _ _ _ _ _ gB _)
    (fun h => hgB (hG ((cond6_iff L _ _).1 h))) (fun h => untouched L _ _ (mt (cond6_iff L _ _).2 h) _ _)) $$ [HsB Hs1]
  · isplitl [HsB]; · iexact HsB
    iexact Hs1
  iintro ⟨HsB, %e2, %he2, Hs1⟩
  sl_exec
  ihave ⟨%g3, %hg3, Hs2⟩ := (landed (thr d L) s2 f2 (tile_body.sl.dma0_3 m d L) (fun y => m (hb d main_arg6) (whole L y)) rfl) $$ Hs2
  iapply (rewriting (thr d L) sA s2 (tile_body.sl.v31 m d L fN) (tile_body.sl.v49 m d L fN) (baseW L) k0_t3_ok _ _ _ fullShare gA
    (m (hb d main_arg0)) _ g3 hg3 (trip3 d L (baseW L) (tile_body.sl.v31 m d L fN) (tile_body.sl.v40 m d L fN) (tile_body.sl.v49 m d L fN) _ _ _ _ _ gA _)
    (fun h => hgA (hQ ((cond7_iff L _ _).1 h))) (fun h => untouched L _ _ (mt (cond7_iff L _ _).2 h) _ _)) $$ [HsA Hs2]
  · isplitl [HsA]; · iexact HsA
    iexact Hs2
  iintro ⟨HsA, %e3, %he3, Hs2⟩
  sl_exec
  ihave ⟨%g4, %hg4, Hs3⟩ := (landed (thr d L) s3 f3 (tile_body.sl.dma0_4 m d L) (fun y => m (hb d main_arg7) (whole L y)) rfl) $$ Hs3
  iapply (rewriting (thr d L) sB s3 (tile_body.sl.v31 m d L fN) (tile_body.sl.v49 m d L fN) (baseW L) k0_t4_ok _ _ _ fullShare gB
    (m (hb d main_arg1)) _ g4 hg4 (trip4 d L (baseW L) (tile_body.sl.v31 m d L fN) (tile_body.sl.v40 m d L fN) (tile_body.sl.v49 m d L fN) _ _ _ _ _ gB _)
    (fun h => hgB (hQ ((cond8_iff L _ _).1 h))) (fun h => untouched L _ _ (mt (cond8_iff L _ _).2 h) _ _)) $$ [HsB Hs3]
  · isplitl [HsB]; · iexact HsB
    iexact Hs3
  iintro ⟨HsB, %e4, %he4, Hs3⟩
  sl_exec
  rw [h31, h40] at he1 he2
  rw [h31, h49] at he3 he4
  sl_step
  ihave Ho0 := (Entails.of_eq ((sent d L out0 (m (hb d main_v8_0)) (res0 m d) (tile_body.sl.dma0_5 d L e1)
      fun x => ((congrFun he1 x).trans (mixed_whole L _ _ _ _ x)).symm).trans
    (show ((outSl out0 L).view.loc (thr d L) ↦[(outSl out0 L).view.set]{fullShare} res0 m d : sProp 𝕄) = hb d main_v8_0 ↦[sliceSet (widL L)]{fullShare} res0 m d by rw [set_out0]))) $$ Ho0'
  ihave Ho1 := (Entails.of_eq ((sent d L out1 (m (hb d main_v8_1)) (res1 m d) (tile_body.sl.dma0_6 d L e2)
      fun x => ((congrFun he2 x).trans (mixed_whole L _ _ _ _ x)).symm).trans
    (show ((outSl out1 L).view.loc (thr d L) ↦[(outSl out1 L).view.set]{fullShare} res1 m d : sProp 𝕄) = hb d main_v8_1 ↦[sliceSet (widL L)]{fullShare} res1 m d by rw [set_out1]))) $$ Ho1'
  ihave Ho2 := (Entails.of_eq ((sent d L out2 (m (hb d main_v8_2)) (res2 m d) (tile_body.sl.dma0_7 d L e3)
      fun x => ((congrFun he3 x).trans (mixed_whole L _ _ _ _ x)).symm).trans
    (show ((outSl out2 L).view.loc (thr d L) ↦[(outSl out2 L).view.set]{fullShare} res2 m d : sProp 𝕄) = hb d main_v8_2 ↦[sliceSet (widL L)]{fullShare} res2 m d by rw [set_out2]))) $$ Ho2'
  ihave Ho3 := (Entails.of_eq ((sent d L out3 (m (hb d main_v8_3)) (res3 m d) (tile_body.sl.dma0_8 d L e4)
      fun x => ((congrFun he4 x).trans (mixed_whole L _ _ _ _ x)).symm).trans
    (show ((outSl out3 L).view.loc (thr d L) ↦[(outSl out3 L).view.set]{fullShare} res3 m d : sProp 𝕄) = hb d main_v8_3 ↦[sliceSet (widL L)]{fullShare} res3 m d by rw [set_out3]))) $$ Ho3'
  ihave Hd0 := (Entails.of_eq (show ((inSl dst0 L).view.loc (thr d L) ↦[(inSl dst0 L).view.set]{fullShare} m (hb d main_arg3) : sProp 𝕄) = hb d main_arg3 ↦[sliceSet (widL L)]{fullShare} m (hb d main_arg3) by rw [set_in0])) $$ Hd0'
  ihave Hd1 := (Entails.of_eq (show ((inSl dst1 L).view.loc (thr d L) ↦[(inSl dst1 L).view.set]{fullShare} m (hb d main_arg4) : sProp 𝕄) = hb d main_arg4 ↦[sliceSet (widL L)]{fullShare} m (hb d main_arg4) by rw [set_in1])) $$ Hd1'
  ihave Hd2 := (Entails.of_eq (show ((inSl dst2 L).view.loc (thr d L) ↦[(inSl dst2 L).view.set]{fullShare} m (hb d main_arg6) : sProp 𝕄) = hb d main_arg6 ↦[sliceSet (widL L)]{fullShare} m (hb d main_arg6) by rw [set_in2])) $$ Hd2'
  ihave Hd3 := (Entails.of_eq (show ((inSl dst3 L).view.loc (thr d L) ↦[(inSl dst3 L).view.set]{fullShare} m (hb d main_arg7) : sProp 𝕄) = hb d main_arg7 ↦[sliceSet (widL L)]{fullShare} m (hb d main_arg7) by rw [set_in3])) $$ Hd3'
  unfold tilePost tileReads tileDests tileRes
  isplitl [HA' HB' HN' Hd0 Hd1 Hd2 Hd3 Ho0 Ho1 Ho2 Ho3]
  · isplitl [HA' HB' HN']
    · isplitl [HA']; · iexact HA'
      isplitl [HB']; · iexact HB'
      iexact HN'
    isplitl [Hd0 Hd1 Hd2 Hd3]
    · isplitl [Hd0]; · iexact Hd0
      isplitl [Hd1]; · iexact Hd1
      isplitl [Hd2]; · iexact Hd2
      iexact Hd3
    isplitl [Ho0]; · iexact Ho0
    isplitl [Ho1]; · iexact Ho1
    isplitl [Ho2]; · iexact Ho2
    iexact Ho3
  isplitl [HsN HsA HsB Hs0 Hs1 Hs2 Hs3 Hbufs]
  · isplitr [Hbufs]; swap; · iexact Hbufs
    isplitl [HsN]; · iexists _; iexact HsN
    isplitl [HsA]; · iexists _; iexact HsA
    isplitl [HsB]; · iexists _; iexact HsB
    isplitl [Hs0]; · iexists _; iexact Hs0
    isplitl [Hs1]; · iexists _; iexact Hs1
    isplitl [Hs2]; · iexists _; iexact Hs2
    iexists _; iexact Hs3
  isplitl [HcN HcA HcB Hci0 Hci1 Hci2 Hci3 Hco0 Hco1 Hco2 Hco3 Hsems]
  · isplitr [Hsems]; swap; · iexact Hsems
    isplitl [HcN]; · iexact HcN
    isplitl [HcA]; · iexact HcA
    isplitl [HcB]; · iexact HcB
    isplitl [Hci0]; · iexact Hci0
    isplitl [Hci1]; · iexact Hci1
    isplitl [Hci2]; · iexact Hci2
    isplitl [Hci3]; · iexact Hci3
    isplitl [Hco0]; · iexact Hco0
    isplitl [Hco1]; · iexact Hco1
    isplitl [Hco2]; · iexact Hco2
    iexact Hco3
  iexists _; isplitr [HO]; swap
  · iexact HO
  ipureintro
  repeat refine free_insert ?_
  have h2 : ∀ p ∈ tile_body.sl.W2 m d L W fN, p ∈ W ∨ p.2 = none := by
    unfold tile_body.sl.W2
    have h1 : ∀ p ∈ (insert (SemLoc.dma cN, default) W : Waits sig (HIx 1)), p ∈ W ∨ p.2 = none := free_insert fun p hp => .inl hp
    split
    · exact free_insert h1
    · exact h1
  unfold tile_body.sl.W3
  split
  · exact free_insert h2
  · exact h2

end Tile

end Cert.Proof.Append

end
-- ==== Proof.Launch.lean ====
/-
  The launch's obligations: every vector subcore of the call runs as `tile_body` says, a SparseCore's part is its
  subcores' parts, and the handshakes' ghost state is there at the start.
-/
module

public import proofs.«01_k».proof.Proof.Tile

@[expose] public section

noncomputable section

namespace Cert.Proof.Append

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## A subcore's run is the call's on that subcore -/

/-- The pair of a SparseCore and a subcore, as the kernel's grid indexes it. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__sched_body (coordsV c s)
            newA (Memref.isWhole_whole _) newB (Memref.isWhole_whole _) dst0 (Memref.isWhole_whole _) dst1 (Memref.isWhole_whole _)
            dst2 (Memref.isWhole_whole _) dst3 (Memref.isWhole_whole _) numsV (Memref.isWhole_whole _) out0 (Memref.isWhole_whole _)
            out1 (Memref.isWhole_whole _) out2 (Memref.isWhole_whole _) out3 (Memref.isWhole_whole _) sN (Memref.isWhole_whole _)
            sA (Memref.isWhole_whole _) sB (Memref.isWhole_whole _) s0 (Memref.isWhole_whole _) s1 (Memref.isWhole_whole _)
            s2 (Memref.isWhole_whole _) s3 (Memref.isWhole_whole _) cc0_scratch7 cc0_scratch8 cc0_scratch9 cc0_scratch10) ⟨⟩ c s := rfl

/-- Waits allowed by the body are allowed by the call. -/
theorem allowed {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW, HO⟩
  isplitl [HA]; · iexact HA
  isplitl [HB]; · iexact HB
  isplitl [HC]; · iexact HC
  iexists W'
  isplitr
  · ipureintro; intro p hp; rcases hW p hp with h | h
    · exact .inl h
    · exact .inr (.inl h)
  · iexact HO

set_option maxRecDepth 16384 in
theorem tileObl [FloatOps F] (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => allowed)

/-- A SparseCore's part of the call is its subcores' parts, both ways. -/
theorem vecSplit : (K (F := F)).VecSplit' (P m) 0 := by
  intro d c
  rw [show (P m).st 0 d c = bigSep Finset.univ fun i : Fin ((K (F := F)).nSub 0) => (P m).go 0 d c i from rfl,
    show (P m).dn 0 d c = bigSep Finset.univ fun i : Fin ((K (F := F)).nSub 0) => (P m).td 0 d c i from rfl]
  iintro H; imodintro
  isplitl [H]; · iexact H
  iintro H; iexact H

/-! ## The ghost state at the start -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  have none_needed : (bigSep Finset.univ fun t : Thread nD τ => bigSep Finset.univ fun q : Fin 1 => (P (F := F) m).x q t)
      = (iprop(emp) : sProp 𝕄) :=
    (bigSep_congr fun _ _ => bigSep_univ_of_subsingleton (0 : Fin 1)).trans (bigSep_emp_const _)
  rw [none_needed, show (bigSep Finset.univ fun _ : Dev nD => (iprop(emp) : sProp 𝕄)) = iprop(emp) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

end Cert.Proof.Append

end
-- ==== Proof.Deal.lean ====
/-
  The whole arrays dealt to the thirty-two vector subcores and put back together: the arrays every subcore reads by
  shares, the arrays a subcore has a part of by their thirty-two slices of 1024 elements.
-/
module

public import proofs.«01_k».proof.Proof.Launch

@[expose] public section

noncomputable section

namespace Cert.Proof.Append

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The arrays of the call, whole, the four results holding what the four functions say. -/
def wholes (d : Dev nD) (f0 f1 f2 f3 : S32768.Idx → BitVec 32) : sProp 𝕄 :=
  iprop((hb d main_arg0 ↦{fullShare} m (hb d main_arg0)) ∗ (hb d main_arg1 ↦{fullShare} m (hb d main_arg1)) ∗ (hb d main_v7 ↦{fullShare} nums m d)
    ∗ (hb d main_arg3 ↦{fullShare} m (hb d main_arg3)) ∗ (hb d main_arg4 ↦{fullShare} m (hb d main_arg4))
    ∗ (hb d main_arg6 ↦{fullShare} m (hb d main_arg6)) ∗ (hb d main_arg7 ↦{fullShare} m (hb d main_arg7))
    ∗ (hb d main_v8_0 ↦{fullShare} f0) ∗ (hb d main_v8_1 ↦{fullShare} f1) ∗ (hb d main_v8_2 ↦{fullShare} f2) ∗ (hb d main_v8_3 ↦{fullShare} f3))

/-- What no subcore takes: the rest of the shares of the arrays they read. -/
def kept (d : Dev nD) : sProp 𝕄 :=
  iprop((hb d main_arg0 ↦{Transfers.shareDrop fullShare 32} m (hb d main_arg0)) ∗ (hb d main_arg1 ↦{Transfers.shareDrop fullShare 32} m (hb d main_arg1))
    ∗ (hb d main_v7 ↦{Transfers.shareDrop fullShare 32} nums m d))

/-- An array of 32768 elements is its thirty-two slices. -/
theorem by_slices (d : Dev nD) (r : Ref sig .tc) (K : Fin 32 → Finset (Idx (hb d r))) (hK : ∀ i j, i ≠ j → Disjoint (K i) (K j))
    (hU : Finset.univ.biUnion K = Finset.univ) (f : Buf (Elt F) (hb d r)) :
    (hb d r ↦{fullShare} f : sProp 𝕄) = bigSep Finset.univ fun w : Fin 32 => hb d r ↦[K w]{fullShare} f := by
  rw [← pointsTo_biUnion Finset.univ (ℓ := hb d r) K fun i _ j _ h => hK i j h, hU]

theorem slices_disjoint (i j : Fin 32) (h : i ≠ j) : Disjoint (sliceSet i) (sliceSet j) := Rect.part_disjoint slices h
theorem slices_cover : (Finset.univ : Finset (Fin 32)).biUnion sliceSet = Finset.univ := Rect.biUnion_part slices

/-- An array read by all is its shares and a rest. -/
theorem by_shares (d : Dev nD) (r : Ref sig .tc) (f : Buf (Elt F) (hb d r)) :
    (hb d r ↦{fullShare} f : sProp 𝕄)
      = iprop((hb d r ↦{Transfers.shareDrop fullShare 32} f) ∗ bigSep Finset.univ fun w : Fin 32 => hb d r ↦{tokq w} f) :=
  BI.Entails.antisymm (Transfers.pointsTo_toks_split fullShare 32) (Transfers.pointsTo_toks_join fullShare 32)

/-- One claim per subcore number is one per SparseCore and subcore of it. -/
theorem by_subcores (Φ : Fin 32 → sProp 𝕄) :
    bigSep Finset.univ Φ = bigSep Finset.univ fun c : Fin 2 => bigSep Finset.univ fun i : Fin 16 => Φ (wid c i) := by
  rw [bigSep_univ_equiv ((Equiv.prodComm (Fin 2) (Fin 16)).trans (finProdFinEquiv : Fin 16 × Fin 2 ≃ Fin 32)) Φ, bigSep_univ_prod]
  rfl

set_option maxHeartbeats 1000000 in
/-- The whole arrays are the subcores' parts and what no subcore takes. -/
theorem dealt (d : Dev nD) (f0 f1 f2 f3 : S32768.Idx → BitVec 32) :
    (wholes m d f0 f1 f2 f3 : sProp 𝕄)
      = iprop(kept m d ∗ bigSep Finset.univ fun w : Fin 32 => iprop(tileReads m d w ∗ tileDests m d w ∗ tileRes d w f0 f1 f2 f3)) := by
  unfold wholes kept tileReads tileDests tileRes
  simp only [bigSep_sep']
  rw [by_shares d main_arg0, by_shares d main_arg1, by_shares d main_v7,
    by_slices d main_arg3 sliceSet slices_disjoint slices_cover, by_slices d main_arg4 sliceSet slices_disjoint slices_cover,
    by_slices d main_arg6 sliceSet slices_disjoint slices_cover, by_slices d main_arg7 sliceSet slices_disjoint slices_cover,
    by_slices d main_v8_0 sliceSet slices_disjoint slices_cover, by_slices d main_v8_1 sliceSet slices_disjoint slices_cover,
    by_slices d main_v8_2 sliceSet slices_disjoint slices_cover, by_slices d main_v8_3 sliceSet slices_disjoint slices_cover]
  refine BI.Entails.antisymm (show (_ : sProp 𝕄) ⊢ _ from ?_) (show (_ : sProp 𝕄) ⊢ _ from ?_)
  · iintro ⟨⟨Ka, Ta⟩, ⟨Kb, Tb⟩, ⟨Kn, Tn⟩, D0, D1, D2, D3, R0, R1, R2, R3⟩
    isplitl [Ka Kb Kn]
    · isplitl [Ka]; · iexact Ka
      isplitl [Kb]; · iexact Kb
      iexact Kn
    isplitl [Ta Tb Tn]
    · isplitl [Ta]; · iexact Ta
      isplitl [Tb]; · iexact Tb
      iexact Tn
    isplitl [D0 D1 D2 D3]
    · isplitl [D0]; · iexact D0
      isplitl [D1]; · iexact D1
      isplitl [D2]; · iexact D2
      iexact D3
    isplitl [R0]; · iexact R0
    isplitl [R1]; · iexact R1
    isplitl [R2]; · iexact R2
    iexact R3
  · iintro ⟨⟨Ka, Kb, Kn⟩, ⟨Ta, Tb, Tn⟩, ⟨D0, D1, D2, D3⟩, R0, R1, R2, R3⟩
    isplitl [Ka Ta]; · isplitl [Ka]; · iexact Ka
                       iexact Ta
    isplitl [Kb Tb]; · isplitl [Kb]; · iexact Kb
                       iexact Tb
    isplitl [Kn Tn]; · isplitl [Kn]; · iexact Kn
                       iexact Tn
    isplitl [D0]; · iexact D0
    isplitl [D1]; · iexact D1
    isplitl [D2]; · iexact D2
    isplitl [D3]; · iexact D3
    isplitl [R0]; · iexact R0
    isplitl [R1]; · iexact R1
    isplitl [R2]; · iexact R2
    iexact R3

/-- What the call takes and brings back, whole. -/
theorem taken (d : Dev nD) :
    (wholes m d (m (hb d main_v8_0)) (m (hb d main_v8_1)) (m (hb d main_v8_2)) (m (hb d main_v8_3)) : sProp 𝕄)
      = iprop(kept m d ∗ bigSep Finset.univ fun c : Fin ((K (F := F)).nCore 0) => (P m).st 0 d c) := by
  rw [dealt, by_subcores]; rfl
theorem returned (d : Dev nD) :
    iprop(kept m d ∗ bigSep Finset.univ fun c : Fin ((K (F := F)).nCore 0) => (P m).dn 0 d c)
      = (wholes m d (res0 m d) (res1 m d) (res2 m d) (res3 m d) : sProp 𝕄) := by
  rw [dealt, by_subcores]; rfl

end Cert.Proof.Append

end
-- ==== Proof.Run.lean ====
/-
  The whole program: @main packs the three numbers, calls the kernel, and adds the count to the two starts. It runs to
  its end with every array of @main's as the sequence of those steps leaves it.
-/
module

public import proofs.«01_k».proof.Proof.Deal
public import Idealize.ShloMosaic.Lib.Pipeline.Frame

@[expose] public section

noncomputable section

namespace Cert.Proof.Append

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## @main as lines of operations around the call -/

/-- Before the call: the three numbers are packed. -/
def before : List (HloOp τ sig (Elt F)) :=
  [StableHlo.nullary main_c (constantI S_ 32 2048#32),
    StableHlo.binary main_arg2 main_c main_v0 (minsi : (⟨S_, .i32⟩ : BufTy).Contents (Elt F) → (⟨S_, .i32⟩ : BufTy).Contents (Elt F) → (⟨S_, .i32⟩ : BufTy).Contents (Elt F)),
    StableHlo.nullary main_c_0 (constantI S_ 32 0#32),
    StableHlo.unary main_c_0 main_v1 (broadcastInDim S16 ![] bcast_S_S16 : (⟨S_, .i32⟩ : BufTy).Contents (Elt F) → (⟨S16, .i32⟩ : BufTy).Contents (Elt F)),
    StableHlo.nullary main_c_1 (constantI S_ 32 0#32),
    StableHlo.unary main_c_1 main_v2 (broadcastInDim S1 ![] bcast_S_S1 : (⟨S_, .i32⟩ : BufTy).Contents (Elt F) → (⟨S1, .i32⟩ : BufTy).Contents (Elt F)),
    StableHlo.ternary main_v1 main_v2 main_v0 main_v3 ((fun x i u => Host.scatter scatter_S16_S1_S__n_0_0_0 (fun _ b => b) x i u) : (⟨S16, .i32⟩ : BufTy).Contents (Elt F) → (⟨S1, .i32⟩ : BufTy).Contents (Elt F) → (⟨S_, .i32⟩ : BufTy).Contents (Elt F) → (⟨S16, .i32⟩ : BufTy).Contents (Elt F)),
    StableHlo.nullary main_c_2 (constantI S_ 32 1#32),
    StableHlo.unary main_c_2 main_v4 (broadcastInDim S1 ![] bcast_S_S1 : (⟨S_, .i32⟩ : BufTy).Contents (Elt F) → (⟨S1, .i32⟩ : BufTy).Contents (Elt F)),
    StableHlo.ternary main_v3 main_v4 main_arg5 main_v5 ((fun x i u => Host.scatter scatter_S16_S1_S__n_0_0_0 (fun _ b => b) x i u) : (⟨S16, .i32⟩ : BufTy).Contents (Elt F) → (⟨S1, .i32⟩ : BufTy).Contents (Elt F) → (⟨S_, .i32⟩ : BufTy).Contents (Elt F) → (⟨S16, .i32⟩ : BufTy).Contents (Elt F)),
    StableHlo.nullary main_c_3 (constantI S_ 32 2#32),
    StableHlo.unary main_c_3 main_v6 (broadcastInDim S1 ![] bcast_S_S1 : (⟨S_, .i32⟩ : BufTy).Contents (Elt F) → (⟨S1, .i32⟩ : BufTy).Contents (Elt F)),
    StableHlo.ternary main_v5 main_v6 main_arg8 main_v7 ((fun x i u => Host.scatter scatter_S16_S1_S__n_0_0_0 (fun _ b => b) x i u) : (⟨S16, .i32⟩ : BufTy).Contents (Elt F) → (⟨S1, .i32⟩ : BufTy).Contents (Elt F) → (⟨S_, .i32⟩ : BufTy).Contents (Elt F) → (⟨S16, .i32⟩ : BufTy).Contents (Elt F))]

/-- What the call does to the arrays of @main's: it fills the four results. -/
def filled (d : Dev nD) : List (HloOp τ sig (Elt F)) :=
  [StableHlo.nullary main_v8_0 (res0 m d : (⟨S32768, .i32⟩ : BufTy).Contents (Elt F)),
    StableHlo.nullary main_v8_1 (res1 m d : (⟨S32768, .i32⟩ : BufTy).Contents (Elt F)),
    StableHlo.nullary main_v8_2 (res2 m d : (⟨S32768, .i32⟩ : BufTy).Contents (Elt F)),
    StableHlo.nullary main_v8_3 (res3 m d : (⟨S32768, .i32⟩ : BufTy).Contents (Elt F))]

/-- After the call: the new starts. -/
def afterwards : List (HloOp τ sig (Elt F)) :=
  [StableHlo.binary main_arg5 main_arg2 main_v9 (addi : (⟨S_, .i32⟩ : BufTy).Contents (Elt F) → (⟨S_, .i32⟩ : BufTy).Contents (Elt F) → (⟨S_, .i32⟩ : BufTy).Contents (Elt F)),
    StableHlo.binary main_arg8 main_arg2 main_v10 (addi : (⟨S_, .i32⟩ : BufTy).Contents (Elt F) → (⟨S_, .i32⟩ : BufTy).Contents (Elt F) → (⟨S_, .i32⟩ : BufTy).Contents (Elt F))]

theorem main_lines [FloatOps F] (d : Dev nD) :
    main (F := F) d = StableHlo.seq before >>= fun _ => ((sc (F := F)).run d 0 >>= fun _ => (StableHlo.seq afterwards >>= fun _ => pure ⟨⟩)) := rfl

/-- The arrays of @main's at the start, at the call, after it, and at the end. -/
def atStart (d : Dev nD) : Valuation τ sig (Elt F) := fun b => m (d, b)
def atCall (d : Dev nD) : Valuation τ sig (Elt F) := StableHlo.after before (atStart m d)
def atReturn (d : Dev nD) : Valuation τ sig (Elt F) := StableHlo.after (filled m d) (atCall m d)
def atEnd (d : Dev nD) : Valuation τ sig (Elt F) := StableHlo.after afterwards (atReturn m d)

/-- The arrays the call touches. -/
def touched : Finset (Ref sig .tc) :=
  {main_arg0, main_arg1, main_v7, main_arg3, main_arg4, main_arg6, main_arg7, main_v8_0, main_v8_1, main_v8_2, main_v8_3}
def touchedBufs : Finset (DevRef τ sig) := touched.map ⟨Proc.devRef (sig := sig) (.tc : Proc τ), Proc.devRef_injective _⟩

theorem touched_sub : touchedBufs ⊆ Pipeline.ucRefs τ sig := by
  intro b hb
  obtain ⟨r, hr, rfl⟩ := Finset.mem_map.mp hb
  exact Finset.mem_filter.mpr ⟨StableHlo.devRef_mem_tcRefs r, (show ∀ r ∈ touched, ¬ r.isScoped by decide) r hr⟩

/-- The arrays the call touches, held at a valuation, are those arrays whole. -/
theorem held_touched (d : Dev nD) (W : Valuation τ sig (Elt F)) (f0 f1 f2 f3 : S32768.Idx → BitVec 32)
    (ha : W (Proc.devRef .tc main_arg0) = m (hb d main_arg0)) (hb' : W (Proc.devRef .tc main_arg1) = m (hb d main_arg1))
    (hn : W (Proc.devRef .tc main_v7) = nums m d)
    (hd0 : W (Proc.devRef .tc main_arg3) = m (hb d main_arg3)) (hd1 : W (Proc.devRef .tc main_arg4) = m (hb d main_arg4))
    (hd2 : W (Proc.devRef .tc main_arg6) = m (hb d main_arg6)) (hd3 : W (Proc.devRef .tc main_arg7) = m (hb d main_arg7))
    (hr0 : W (Proc.devRef .tc main_v8_0) = f0) (hr1 : W (Proc.devRef .tc main_v8_1) = f1)
    (hr2 : W (Proc.devRef .tc main_v8_2) = f2) (hr3 : W (Proc.devRef .tc main_v8_3) = f3) :
    (StableHlo.held (T d) touchedBufs W : sProp 𝕄) = wholes m d f0 f1 f2 f3 := by
  unfold StableHlo.held touchedBufs wholes
  rw [BI.bigSep_map]
  unfold touched
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), BI.bigSep_singleton]
  rw [← ha, ← hb', ← hn, ← hd0, ← hd1, ← hd2, ← hd3, ← hr0, ← hr1, ← hr2, ← hr3]
  rfl

theorem held_atCall (d : Dev nD) : (StableHlo.held (T d) touchedBufs (atCall m d) : sProp 𝕄)
    = wholes m d (m (hb d main_v8_0)) (m (hb d main_v8_1)) (m (hb d main_v8_2)) (m (hb d main_v8_3)) := by
  apply held_touched <;> unfold atCall before <;> after_results <;> rfl

theorem held_atReturn (d : Dev nD) : (StableHlo.held (T d) touchedBufs (atReturn m d) : sProp 𝕄)
    = wholes m d (res0 m d) (res1 m d) (res2 m d) (res3 m d) := by
  apply held_touched <;> unfold atReturn filled atCall before <;> after_results <;> rfl

/-- The other arrays are as they were at the call. -/
theorem held_others (d : Dev nD) :
    (StableHlo.held (T d) (Pipeline.ucRefs τ sig \ touchedBufs) (atReturn m d) : sProp 𝕄)
      = StableHlo.held (T d) (Pipeline.ucRefs τ sig \ touchedBufs) (atCall m d) := by
  refine StableHlo.held_congr (T d) fun b hb => ?_
  have away : ∀ r ∈ touched, b ≠ Proc.devRef .tc r := fun r hr e =>
    (Finset.mem_sdiff.mp hb).2 (e ▸ Finset.mem_map_of_mem _ hr)
  refine StableHlo.after_of_forall_not_mem (filled m d) (atCall m d) fun op hop => ?_
  simp only [filled, List.mem_cons, List.not_mem_nil, or_false] at hop
  rcases hop with rfl | rfl | rfl | rfl <;>
    exact fun h => away _ (by decide) (Finset.mem_singleton.mp h)

/-- All arrays of @main's, held at a valuation, are those the call touches and the others. -/
theorem held_all (d : Dev nD) (W : Valuation τ sig (Elt F)) :
    (StableHlo.held (T d) (Pipeline.ucRefs τ sig) W : sProp 𝕄)
      = iprop(StableHlo.held (T d) touchedBufs W ∗ StableHlo.held (T d) (Pipeline.ucRefs τ sig \ touchedBufs) W) :=
  StableHlo.held_sub_split (T d) touched_sub W

/-- Every operation of @main's works on arrays of @main's. -/
theorem before_sub : ∀ op ∈ before (F := F), op.bufs ⊆ Pipeline.ucRefs τ sig := fun op h =>
  Pipeline.sub_ucRefs op (List.forall_iff_forall_mem.mp (show List.Forall (fun op => op.bufs ⊆ StableHlo.tcRefs τ sig) (before (F := F)) from
    ⟨StableHlo.nullary_bufs_sub .., StableHlo.binary_bufs_sub .., StableHlo.nullary_bufs_sub .., StableHlo.unary_bufs_sub .., StableHlo.nullary_bufs_sub .., StableHlo.unary_bufs_sub .., StableHlo.ternary_bufs_sub ..,
      StableHlo.nullary_bufs_sub .., StableHlo.unary_bufs_sub .., StableHlo.ternary_bufs_sub ..,
      StableHlo.nullary_bufs_sub .., StableHlo.unary_bufs_sub .., StableHlo.ternary_bufs_sub ..⟩) op h)
theorem before_fresh : ∀ op ∈ before (F := F), op.fresh = ∅ :=
  List.forall_iff_forall_mem.mp (show List.Forall (fun op => op.fresh = ∅) (before (F := F)) from ⟨rfl, rfl, rfl, rfl, rfl, rfl, rfl, rfl, rfl, rfl, rfl, rfl, rfl⟩)
theorem afterwards_sub : ∀ op ∈ afterwards (F := F), op.bufs ⊆ Pipeline.ucRefs τ sig := fun op h =>
  Pipeline.sub_ucRefs op (List.forall_iff_forall_mem.mp (show List.Forall (fun op => op.bufs ⊆ StableHlo.tcRefs τ sig) (afterwards (F := F)) from
    ⟨StableHlo.binary_bufs_sub .., StableHlo.binary_bufs_sub ..⟩) op h)
theorem afterwards_fresh : ∀ op ∈ afterwards (F := F), op.fresh = ∅ :=
  List.forall_iff_forall_mem.mp (show List.Forall (fun op => op.fresh = ∅) (afterwards (F := F)) from ⟨rfl, rfl⟩)

/-- What @main ends with: its arrays as the steps leave them. -/
def FIN (d : Dev nD) : sProp 𝕄 := StableHlo.held (T d) (Pipeline.ucRefs τ sig) (atEnd m d)

/-- The arrays the launch hands @main are all of @main's, at their contents at the start. -/
theorem held_atStart (d : Dev nD) :
    (unscopedBufs d (fun b => m ((SparseCore.T d).loc b)) : sProp 𝕄) = StableHlo.held (T d) (Pipeline.ucRefs τ sig) (atStart m d) := by
  unfold unscopedBufs StableHlo.held Pipeline.ucRefs StableHlo.tcRefs
  rw [Finset.filter_map, BI.bigSep_map]
  rfl

/-- All arrays of @main's at the call: what it takes, and the rest. -/
theorem to_call (d : Dev nD) :
    (StableHlo.held (d.tc : Thread nD τ) (Pipeline.ucRefs τ sig) (StableHlo.after before (atStart m d)) : sProp 𝕄)
      = iprop((kept m d ∗ bigSep Finset.univ fun c : Fin ((K (F := F)).nCore 0) => (P m).st 0 d c)
          ∗ StableHlo.held (SparseCore.T d) (Pipeline.ucRefs τ sig \ touchedBufs) (atCall m d)) :=
  (held_all d (atCall m d)).trans (by rw [held_atCall, taken])

/-- All arrays of @main's after the call: what it brought back, and the rest. -/
theorem from_call (d : Dev nD) :
    iprop((kept m d ∗ bigSep Finset.univ fun c : Fin ((K (F := F)).nCore 0) => (P m).dn 0 d c)
        ∗ StableHlo.held (SparseCore.T d) (Pipeline.ucRefs τ sig \ touchedBufs) (atCall m d))
      = (StableHlo.held (d.tc : Thread nD τ) (Pipeline.ucRefs τ sig) (atReturn m d) : sProp 𝕄) := by
  rw [returned, ← held_atReturn, ← held_others, ← held_all]

set_option maxHeartbeats 1000000 in
set_option backward.isDefEq.respectTransparency.types false in
/-- @main on device `d`: the packing, the call, the new starts. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_lines, held_atStart]
  iintro ⟨#Hctx, Hst, ⟨Hb, Hheld, Hts, -⟩, -⟩
  iapply (StableHlo.wp_seq 𝒱 none Set.univ d (Pipeline.ucRefs τ sig) _ before before_sub before_fresh (atStart m d)) $$ [Hb Hheld]
  · isplitl [Hb]; · iexact Hb
    iexact Hheld
  iintro ⟨Hb, Hheld⟩
  ihave H := (Entails.of_eq (to_call m d)) $$ Hheld
  icases H with ⟨⟨Hkept, Hin⟩, Hothers⟩
  rw [wp_bind]
  iapply ((K (F := F)).wp_run (D (F := F)) 𝒱 (EH := EH) (P := P m) κ d 0) $$ [Hst Hin Hkept Hothers Hb Hts]
  isplitr; · iexact Hctx
  isplitl [Hst]; · iexact Hst
  isplitl [Hin]; · iexact Hin
  iintro ⟨Hst, Hout⟩
  ihave Hheld := (Entails.of_eq (from_call m d)) $$ [Hkept Hout Hothers]
  · isplitr [Hothers]
    · isplitl [Hkept]; · iexact Hkept
      iexact Hout
    · iexact Hothers
  iapply (StableHlo.wp_seq 𝒱 none Set.univ d (Pipeline.ucRefs τ sig) _ afterwards afterwards_sub afterwards_fresh (atReturn m d)) $$ [Hb Hheld]
  · isplitl [Hb]; · iexact Hb
    iexact Hheld
  iintro ⟨Hb, Hheld⟩
  rw [wp_pure]
  imodintro
  isplitl [Hst]; · iexact Hst
  isplitl [Hheld]
  · iapply (Entails.of_eq (show (StableHlo.held (d.tc : Thread nD τ) (Pipeline.ucRefs τ sig) (StableHlo.after afterwards (atReturn m d)) : sProp 𝕄)
      = FIN m d from rfl)); iexact Hheld
  isplitl [Hb] <;> iassumption

/-- The memory a run ends with has @main's arrays as the steps leave them. -/
def fq (d : Dev nD) (s' : Phys nD τ sig (Elt F)) : Prop := ∀ r : Ref sig .tc, ¬ r.isScoped → s'.mem.mem (hb d r) = atEnd m d (Proc.devRef .tc r)

theorem hfin (d : Dev nD) (s' : Phys nD τ sig (Elt F)) : iprop(FIN m d ∗ SI s') ⊢ (⌜fq m d s'⌝ : sProp 𝕄) := by
  have one : ∀ r : {r : Ref sig .tc // ¬ r.isScoped}, iprop(FIN m d ∗ SI s') ⊢ (⌜s'.mem.mem (hb d r.1) = atEnd m d (Proc.devRef .tc r.1)⌝ : sProp 𝕄) := by
    intro r
    unfold FIN StableHlo.held
    rw [show Pipeline.ucRefs τ sig = insert (Proc.devRef .tc r.1) ((Pipeline.ucRefs τ sig).erase (Proc.devRef .tc r.1)) from
        (Finset.insert_erase (Finset.mem_filter.mpr ⟨StableHlo.devRef_mem_tcRefs r.1, r.2⟩)).symm,
      SparseCore.bigSep_insert' (Finset.notMem_erase _ _)]
    iintro ⟨⟨Hr, -⟩, HSI⟩
    ihave H := (SI_pointsTo_agree (st := s') (ℓ := hb d r.1) (I := Finset.univ) (q := fullShare) (f := atEnd m d (Proc.devRef .tc r.1))) $$ [HSI Hr]
    · isplitl [HSI] <;> iassumption
    icases H with %h
    ipureintro; exact funext fun i => h i (Finset.mem_univ i)
  exact ((Laws.forall_intro one).trans Laws.pure_forall.2).trans (Laws.pure_mono fun all r hr => all ⟨r, hr⟩)

/-! ## The run -/

/-- Every counter is back at zero, and @main's arrays are as the steps leave them. -/
def QC : PUnit × MemSt nD τ sig (Elt F) → Prop := fun r =>
  (∀ d : Dev nD, ∀ b : Ref sig .tc, ¬ b.isScoped → r.2.mem (hb d b) = atEnd m d (Proc.devRef .tc b)) ∧ r.2.sem = fun _ => 0

theorem run_main [FloatOps F] [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Append

end
-- ==== Proof.Values.lean ====
/-
  What @main leaves in the arguments and the results, and so what every execution of the program ends with.
-/
module

public import proofs.«01_k».proof.Proof.Run

@[expose] public section

noncomputable section

namespace Cert.Proof.Append

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable (ρ : Dev nD → PrngReg)

/-- The arguments of device `d` are unchanged. -/
def Unchanged (d : Dev nD) (mem : (ℓ : Loc nD τ sig) → Buf (Elt F) ℓ) : Prop :=
  mem (hb d main_arg0) = m (hb d main_arg0) ∧ mem (hb d main_arg1) = m (hb d main_arg1) ∧ mem (hb d main_arg2) = m (hb d main_arg2)
    ∧ mem (hb d main_arg3) = m (hb d main_arg3) ∧ mem (hb d main_arg4) = m (hb d main_arg4) ∧ mem (hb d main_arg5) = m (hb d main_arg5)
    ∧ mem (hb d main_arg6) = m (hb d main_arg6) ∧ mem (hb d main_arg7) = m (hb d main_arg7) ∧ mem (hb d main_arg8) = m (hb d main_arg8)

/-- The six results of device `d`, in @main's order. -/
def Results (d : Dev nD) (mem : (ℓ : Loc nD τ sig) → Buf (Elt F) ℓ) : Prop :=
  mem (hb d main_v8_0) = res0 m d ∧ mem (hb d main_v8_1) = res1 m d ∧ mem (hb d main_v9) = addi (m (hb d main_arg5)) (m (hb d main_arg2))
    ∧ mem (hb d main_v8_2) = res2 m d ∧ mem (hb d main_v8_3) = res3 m d ∧ mem (hb d main_v10) = addi (m (hb d main_arg8)) (m (hb d main_arg2))

/-- Every execution ends with the six results written, the arguments unchanged and every counter at zero. -/
theorem run_values [FloatOps F] [∀ e, Nonempty (Elt F e)] :
    θ_run (Cert.KernelIdeal.defs (F := F)) (Cert.KernelIdeal.threads (F := F)) ⟨m, fun _ => 0, ρ⟩
      (fun r => (∀ d, Results m d r.2.mem ∧ Unchanged m d r.2.mem) ∧ r.2.sem = fun _ => 0) := by
  refine (θ_run (Cert.KernelIdeal.defs (F := F)) _ _).mono (fun r h => ⟨fun d => ?_, h.2⟩) (run_main m ρ)
  have at_end : ∀ (b : Ref sig .tc) (_ : ¬ b.isScoped) (v : Buf (Elt F) (hb d b)), atEnd m d (Proc.devRef .tc b) = v → r.2.mem (hb d b) = v :=
    fun b hs v e => (h.1 d b hs).trans e
  unfold Results Unchanged
  refine ⟨⟨?_, ?_, ?_, ?_, ?_, ?_⟩, ?_, ?_, ?_, ?_, ?_, ?_, ?_, ?_, ?_⟩ <;>
    (refine at_end _ (by decide) _ ?_; unfold atEnd afterwards atReturn filled atCall before; after_results <;> rfl)

end Cert.Proof.Append

end
-- ==== Proof.Reference.lean ====
/-
  The reference's scatter of gathered elements, read element by element: where both starts are not negative, it is the
  appended array the kernel writes.
-/
module

public import proofs.«01_k».proof.Proof.Appended
public import proofs.«01_k».proof.Proof.Gen.ReferenceIdeal
public import Idealize.ShloMosaic.Lib.Routing.OpsSet

@[expose] public section

noncomputable section

namespace Cert.Proof.Append

open Idealize.ShloMosaic Idealize.ShloMosaic.Routing Idealize.ShloMosaic.ValueIdx
open Cert.ReferenceIdeal Cert.ReferenceIdeal.Gen

/-! ## The reference's arrays -/

/-- Where each source position goes: past the end when it is not one of the first `num`, else from `start` on. -/
def place (num start : S_.Idx → BitVec 32) : S2048.Idx → BitVec 32 :=
  select (cmpi .sge (iotaInDim S2048 32 0) (broadcastInDim S2048 ![] bcast_S_S2048 num))
    (broadcastInDim S2048 ![] bcast_S_S2048 (id (constantI S_ 32 32768#32)))
    (addi (iotaInDim S2048 32 0) (broadcastInDim S2048 ![] bcast_S_S2048 start))

/-- The same with negative places counted from the end. -/
def wrapped (num start : S_.Idx → BitVec 32) : S2048.Idx → BitVec 32 :=
  select (cmpi .slt (place num start) (broadcastInDim S2048 ![] bcast_S_S2048 (constantI S_ 32 0#32)))
    (addi (place num start) (broadcastInDim S2048 ![] bcast_S_S2048 (constantI S_ 32 32768#32))) (place num start)

/-- Which source position each one reads. -/
def picked (num : S_.Idx → BitVec 32) : S2048.Idx → BitVec 32 :=
  select (cmpi .sge (iotaInDim S2048 32 0) (broadcastInDim S2048 ![] bcast_S_S2048 num))
    (broadcastInDim S2048 ![] bcast_S_S2048 (id (constantI S_ 32 2048#32))) (iotaInDim S2048 32 0)

/-- The reference's result. -/
def scattered (num start : S_.Idx → BitVec 32) (src : S2048.Idx → BitVec 32) (dst : S32768.Idx → BitVec 32) : S32768.Idx → BitVec 32 :=
  Host.scatter scatter_S32768_S2048x1_S2048_n_0_0_1 (fun _ b => b) dst (broadcastInDim S2048x1 ![0] bcast_S2048_S2048x1_0 (wrapped num start))
    (Host.gather gather_S2048_S2048x1_S2048_n_0_n_n_0_1_1 src (broadcastInDim S2048x1 ![0] bcast_S2048_S2048x1_0 (picked num)))

/-! ## Words -/

/-- Where source position `r` goes, as a word. -/
def placeW (num start r : BitVec 32) : BitVec 32 := Scalar.select (IntOp.cmpi .sge r num) 32768#32 (IntOp.addi r start)
/-- The same with a negative place counted from the end. -/
def wrappedW (num start r : BitVec 32) : BitVec 32 :=
  Scalar.select (IntOp.cmpi .slt (placeW num start r) 0#32) (IntOp.addi (placeW num start r) 32768#32) (placeW num start r)

/-- Source position `r` is written at `j` exactly when it is one of the first `num` and `start + r` is `j`. -/
theorem wrappedW_iff (num start : BitVec 32) (hs : 0 ≤ start.toInt) (r j : Nat) (hr : r < 2048) (hj : j < 32768) :
    (wrappedW num start (BitVec.ofNat 32 r)).toInt = (j : Int) ↔ (r : Int) < num.toInt ∧ start.toInt + r = j := by
  have hr' : (BitVec.ofNat 32 r).toNat = r := by rw [BitVec.toNat_ofNat]; omega
  have hrI : (BitVec.ofNat 32 r).toInt = r := by rw [BitVec.toInt_eq_toNat_cond, hr']; split_ifs <;> omega
  have hb : ∀ p : Bool, (BitVec.ofBool p = 1) = (p = true) := by intro p; cases p <;> simp
  have hst := start.isLt
  by_cases hc : num.toInt ≤ r
  · have e : placeW num start (BitVec.ofNat 32 r) = 32768#32 := if_pos (by
      simp only [IntOp.cmpi, BitVec.sle_eq_decide, hb, decide_eq_true_eq, hrI]; exact hc)
    rw [wrappedW, e, show Scalar.select (IntOp.cmpi .slt 32768#32 0#32) (IntOp.addi 32768#32 32768#32) 32768#32 = 32768#32 from rfl,
      show (32768#32).toInt = 32768 from rfl]
    omega
  · have e : placeW num start (BitVec.ofNat 32 r) = BitVec.ofNat 32 r + start := if_neg (by
      simp only [IntOp.cmpi, BitVec.sle_eq_decide, hb, decide_eq_true_eq, hrI]; exact hc)
    rw [wrappedW, e]
    have hs' : start.toInt = start.toNat := by rw [BitVec.toInt_eq_toNat_cond] at hs ⊢; split_ifs at hs ⊢ <;> omega
    have ha : (BitVec.ofNat 32 r + start).toNat = r + start.toNat := by
      rw [BitVec.toNat_add, hr']
      rw [hs'] at hs
      have := BitVec.toInt_eq_toNat_cond start
      split_ifs at this <;> omega
    have hz : (0#32).toInt = 0 := rfl
    simp only [Scalar.select, IntOp.cmpi, IntOp.addi, hb, BitVec.slt_eq_decide, decide_eq_true_eq, hz, hs']
    split_ifs with hneg
    · rw [BitVec.toInt_eq_toNat_cond, ha] at hneg
      rw [BitVec.toInt_eq_toNat_cond, BitVec.toNat_add, ha, BitVec.toNat_ofNat]
      have := BitVec.toInt_eq_toNat_cond start
      split_ifs at hneg this ⊢ <;> omega
    · rw [BitVec.toInt_eq_toNat_cond, ha] at hneg ⊢
      split_ifs at hneg ⊢ <;> omega

/-- Position `j` is in the window exactly when one of the first `num` source positions is written there. -/
theorem inWindow_iff (num start : BitVec 32) (hs : 0 ≤ start.toInt) (j : Nat) (hj : j < 32768) :
    inWindow (IntOp.minsi num 2048#32) start (BitVec.ofNat 32 j) = 1#1
      ↔ start.toInt ≤ j ∧ (j : Int) - start.toInt < 2048 ∧ (j : Int) - start.toInt < num.toInt := by
  have hj' : (BitVec.ofNat 32 j).toNat = j := by rw [BitVec.toNat_ofNat]; omega
  have hb : ∀ p q : Bool, (IntOp.andi (BitVec.ofBool p) (BitVec.ofBool q) = 1#1) = (p = true ∧ q = true) := by
    intro p q; cases p <;> cases q <;> simp [IntOp.andi]
  have hn := num.isLt
  have hst := start.isLt
  simp only [inWindow, IntOp.minsi, IntOp.cmpi, IntOp.addi, hb, BitVec.slt_eq_decide, BitVec.sle_eq_decide, decide_eq_true_eq]
  simp only [BitVec.toInt_eq_toNat_cond, hj'] at hs ⊢
  split_ifs <;> simp only [BitVec.toNat_add, BitVec.toNat_ofNat, hj'] at * <;> omega

/-- Inside the window the kernel reads the source at `j - start`. -/
theorem clip_sub (start : BitVec 32) (hs : 0 ≤ start.toInt) (r j : Nat) (hr : r < 2048) (hj : j < 32768) (h : start.toInt + r = j) :
    (clip (IntOp.subi (BitVec.ofNat 32 j) start)).toNat = r := by
  have hst := start.isLt
  have hj' : (BitVec.ofNat 32 j).toNat = j := by rw [BitVec.toNat_ofNat]; omega
  have e : IntOp.subi (BitVec.ofNat 32 j) start = BitVec.ofNat 32 r := by
    apply BitVec.eq_of_toNat_eq
    simp only [BitVec.toInt_eq_toNat_cond] at hs h
    simp only [IntOp.subi, BitVec.toNat_sub, hj', BitVec.toNat_ofNat]
    split_ifs at h <;> omega
  have hr' : (BitVec.ofNat 32 r).toNat = r := by rw [BitVec.toNat_ofNat]; omega
  rw [e]
  simp only [clip, IntOp.minsi, IntOp.maxsi, BitVec.slt_eq_decide, decide_eq_true_eq, BitVec.toInt_eq_toNat_cond, hr']
  split_ifs <;> simp only [BitVec.toNat_ofNat] at * <;> omega

/-! ## The scatter and the gather -/

/-- Update `k` lands at `j` exactly when its index word, read signed, is `j`. -/
theorem lands (idx : IVec S2048x1 32) (k : S2048.Idx) (j : S32768.Idx) :
    scatter_S32768_S2048x1_S2048_n_0_0_1.resultIdx? k idx = some j ↔ (idx (ix2 (k 0) (0 : Fin 1))).toInt = ((j 0).val : Int) := by
  rw [resultIdx?_eq_some]
  have hstart : scatter_S32768_S2048x1_S2048_n_0_0_1.start k idx 0 = (idx (ix2 (k 0) (0 : Fin 1))).toInt := by
    have e : ∀ p, scatter_S32768_S2048x1_S2048_n_0_0_1.siIdx k p = ix2 (k 0) (0 : Fin 1) := fun p => by
      funext a; match a with
      | ⟨0, _⟩ => rfl
      | ⟨1, _⟩ => exact Subsingleton.elim (α := Fin 1) _ _
    exact congrArg (fun i => (idx i).toInt) (e _)
  have hwin : scatter_S32768_S2048x1_S2048_n_0_0_1.window k 0 = 0 := rfl
  constructor
  · intro h
    have := h 0
    rw [hstart, hwin] at this
    simpa using this
  · intro h a
    match a with
    | ⟨0, _⟩ =>
      show scatter_S32768_S2048x1_S2048_n_0_0_1.start k idx 0 + (scatter_S32768_S2048x1_S2048_n_0_0_1.window k 0 : Int) = ((j 0).val : Int)
      rw [hstart, hwin]
      simpa using h

/-- A vector as a column, read. -/
theorem column (v : S2048.Idx → BitVec 32) (r : Fin 2048) :
    (broadcastInDim S2048x1 ![0] bcast_S2048_S2048x1_0 v : S2048x1.Idx → BitVec 32) (ix2 r (0 : Fin 1)) = v (ix1 r) := by
  refine congrArg v (funext fun a => ?_)
  match a with
  | ⟨0, _⟩ => exact Fin.ext rfl

/-- One of the first `num` source positions reads itself. -/
theorem gathered (num : S_.Idx → BitVec 32) (src : S2048.Idx → BitVec 32) (r : Fin 2048) (h : (r.val : Int) < (num ix0).toInt) :
    Host.gather gather_S2048_S2048x1_S2048_n_0_n_n_0_1_1 src (broadcastInDim S2048x1 ![0] bcast_S2048_S2048x1_0 (picked num)) (ix1 r) = src (ix1 r) := by
  refine gather_take1 gather_S2048_S2048x1_S2048_n_0_n_n_0_1_1 rfl rfl rfl rfl src _ r r ?_ (by decide)
  refine (column (picked num) r).trans ?_
  have e : picked num (ix1 r) = Scalar.select (IntOp.cmpi .sge (BitVec.ofNat 32 r.val) (num ix0)) 2048#32 (BitVec.ofNat 32 r.val) := by
    rw [← show (broadcastInDim S2048 ![] bcast_S_S2048 num : S2048.Idx → BitVec 32) (ix1 r) = num ix0 from congrArg num (eq_ix0 _)]
    rfl
  have hr := r.isLt
  have hr' : (BitVec.ofNat 32 r.val).toNat = r.val := by rw [BitVec.toNat_ofNat]; omega
  have hb : ∀ p : Bool, (BitVec.ofBool p = 1#1) = (p = true) := by intro p; cases p <;> simp
  rw [e]
  refine if_neg ?_
  simp only [IntOp.cmpi, BitVec.sle_eq_decide]
  rw [show (1 : BitVec 1) = 1#1 from rfl, hb, decide_eq_true_eq, BitVec.toInt_eq_toNat_cond (BitVec.ofNat 32 r.val), hr']
  split_ifs <;> omega

/-- The wrapped place of position `r`, from the two numbers. -/
theorem wrapped_at (num start : S_.Idx → BitVec 32) (r : Fin 2048) :
    wrapped num start (ix1 r) = wrappedW (num ix0) (start ix0) (BitVec.ofNat 32 r.val) := by
  rw [← show (broadcastInDim S2048 ![] bcast_S_S2048 num : S2048.Idx → BitVec 32) (ix1 r) = num ix0 from congrArg num (eq_ix0 _),
    ← show (broadcastInDim S2048 ![] bcast_S_S2048 start : S2048.Idx → BitVec 32) (ix1 r) = start ix0 from congrArg start (eq_ix0 _)]
  rfl

/-- Where the start is not negative, the reference's array is the appended array. -/
theorem scattered_eq (num start : S_.Idx → BitVec 32) (hs : 0 ≤ (start ix0).toInt) (src : S2048.Idx → BitVec 32) (dst : S32768.Idx → BitVec 32) :
    scattered num start src dst = appended (IntOp.minsi (num ix0) 2048#32) (start ix0) src dst := by
  funext j
  have hj : (j 0).val < 32768 := (j 0).isLt
  have land : ∀ r : Fin 2048, scatter_S32768_S2048x1_S2048_n_0_0_1.resultIdx? (ix1 r) (broadcastInDim S2048x1 ![0] bcast_S2048_S2048x1_0 (wrapped num start)) = some j
      ↔ (r.val : Int) < (num ix0).toInt ∧ (start ix0).toInt + r.val = (j 0).val := by
    intro r
    rw [lands, ← wrappedW_iff (num ix0) (start ix0) hs r.val (j 0).val r.isLt hj, ← wrapped_at num start r, ← column (wrapped num start) r]
  unfold scattered appended appendAt
  by_cases h : inWindow (IntOp.minsi (num ix0) 2048#32) (start ix0) (BitVec.ofNat 32 (j 0).val) = 1#1
  · obtain ⟨h1, h2, h3⟩ := (inWindow_iff (num ix0) (start ix0) hs (j 0).val hj).mp h
    obtain ⟨r, hr⟩ : ∃ r : Nat, (start ix0).toInt + r = (j 0).val := ⟨((j 0).val - (start ix0).toInt).toNat, by omega⟩
    have hr2 : r < 2048 := by omega
    rw [show Scalar.select (inWindow (IntOp.minsi (num ix0) 2048#32) (start ix0) (BitVec.ofNat 32 (j 0).val))
        (src (srcIx (IntOp.subi (BitVec.ofNat 32 (j 0).val) (start ix0)))) (dst j) = src (ix1 ⟨r, hr2⟩) from
      (if_pos h).trans (congrArg src (funext fun a => by
        match a with
        | ⟨0, _⟩ => exact Fin.ext (clip_sub (start ix0) hs r (j 0).val hr2 hj hr)))]
    refine scatter_set_hit _ dst _ _ j _ (fun k hk => ?_) (ix1 ⟨r, hr2⟩) ((land ⟨r, hr2⟩).mpr ⟨by show (r : Int) < _; omega, hr⟩)
    rw [eq_ix1 k] at hk ⊢
    obtain ⟨k1, k2⟩ := (land (k 0)).mp hk
    rw [show k 0 = ⟨r, hr2⟩ from Fin.ext (by show (k 0).val = r; omega)] at k1 ⊢
    exact gathered num src ⟨r, hr2⟩ k1
  · rw [show Scalar.select (inWindow (IntOp.minsi (num ix0) 2048#32) (start ix0) (BitVec.ofNat 32 (j 0).val))
        (src (srcIx (IntOp.subi (BitVec.ofNat 32 (j 0).val) (start ix0)))) (dst j) = dst j from if_neg h]
    refine scatter_set_miss _ dst _ _ j fun k hk => h ?_
    rw [eq_ix1 k] at hk
    obtain ⟨k1, k2⟩ := (land (k 0)).mp hk
    have hk0 : (k 0).val < 2048 := (k 0).isLt
    exact (inWindow_iff (num ix0) (start ix0) hs (j 0).val hj).mpr ⟨by omega, by omega, by omega⟩

end Cert.Proof.Append

end
-- ==== Proof.lean ====
/-
  The certificate of the append kernel: two 2048-element sources appended to four 32768-element arrays, the first two at
  one start and the last two at another, with the two starts advanced by the length.

  The kernel's run is proved once, over any float values (`Append.run_values`): every execution ends with the four arrays
  appended, the two starts advanced, the arguments unchanged and every counter at zero. The frames are that run read at the
  two float instances. The reference's arrays are the same appended arrays wherever both starts are not negative
  (`Append.scattered_eq`), which is what the equality of the results needs.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Values
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.ShloMosaic.ValueIdx Idealize.SL.Sem

attribute [local instance] Cert.Kernel.Gen.facts Cert.KernelIdeal.Gen.facts Cert.ReferenceIdeal.Gen.facts

/-! ## The frames -/

theorem frame_kernel : Cert.quiescent_Kernel := fun m g _ =>
  (θ_run (Cert.KernelIdeal.defs (F := Bits)) _ _).mono (fun _ h => ⟨fun d => (h.1 d).2, h.2⟩) (Append.run_values (F := Bits) m g)

theorem frame_ideal : Cert.quiescent_KernelIdeal := fun m g _ =>
  (θ_run (Cert.KernelIdeal.defs (F := Ideal)) _ _).mono (fun _ h => ⟨fun d => (h.1 d).2, h.2⟩) (Append.run_values (F := Ideal) m g)

theorem frame_reference : Cert.quiescent_ReferenceIdeal := fun m g _ =>
  (θ_run (Cert.ReferenceIdeal.defs (F := Ideal)) _ _).mono
    (fun r h => ⟨fun c => (h c).2.2.2.2.2.2, sem_eq_zero_of_no_sems (by decide) r.2⟩) (Cert.ReferenceIdeal.Value.run (F := Ideal) m g)

/-! ## The results -/

/-- Where both starts are read as not negative, they are. -/
theorem starts_nonneg [Cert.Pre_starts_nonneg.Facts] {m : (ℓ : Loc Cert.KernelIdeal.nD Cert.KernelIdeal.τ Cert.KernelIdeal.sig) → Buf (Elt Ideal) ℓ}
    (h : Cert.Pre_KernelIdeal_starts_nonneg m) (d : Dev Cert.KernelIdeal.nD) :
    0 ≤ (Append.startG m d).toInt ∧ 0 ≤ (Append.startQ m d).toInt := by
  have e : IntOp.andi (IntOp.cmpi .sge (Append.startG m d) 0#32) (IntOp.cmpi .sge (Append.startQ m d) 0#32) = 1#1 := congrFun (h d) ix0
  have hb : ∀ p q : Bool, (IntOp.andi (BitVec.ofBool p) (BitVec.ofBool q) = 1#1) = (p = true ∧ q = true) := by
    intro p q; cases p <;> cases q <;> simp [IntOp.andi]
  simp only [IntOp.cmpi, hb, BitVec.sle_eq_decide, decide_eq_true_eq, show (0#32).toInt = 0 from rfl] at e
  exact e

/-- One of the reference's four arrays, from arguments equal to the kernel's. -/
theorem agrees {num num' start start' : Cert.ReferenceIdeal.S_.Idx → BitVec 32} {src src' : Cert.ReferenceIdeal.S2048.Idx → BitVec 32}
    {dst dst' : Cert.ReferenceIdeal.S32768.Idx → BitVec 32} (hn : num' = num) (hst : start' = start) (hsrc : src' = src) (hdst : dst' = dst)
    (hs : 0 ≤ (start ix0).toInt) :
    Append.scattered num' start' src' dst' = Append.appended (IntOp.minsi (num ix0) 2048#32) (start ix0) src dst := by
  subst hn hst hsrc hdst
  exact Append.scattered_eq num' start' hs src' dst'

theorem algebraic [Cert.Pre_starts_nonneg.Facts] : Cert.algebraic_KernelIdeal_ReferenceIdeal_pre_starts_nonneg := by
  intro m g m' g' hpre heq
  refine ⟨fun d => Append.res0 m d, fun d => Append.res1 m d, fun d => addi (m (Append.hb d Cert.KernelIdeal.main_arg5)) (m (Append.hb d Cert.KernelIdeal.main_arg2)),
    fun d => Append.res2 m d, fun d => Append.res3 m d, fun d => addi (m (Append.hb d Cert.KernelIdeal.main_arg8)) (m (Append.hb d Cert.KernelIdeal.main_arg2)), ?_, ?_⟩
  · refine (θ_run (Cert.KernelIdeal.defs (F := Ideal)) _ _).mono (fun r h d => ?_) (Append.run_values (F := Ideal) m g)
    obtain ⟨⟨h0, h1, h2, h3, h4, h5⟩, hu⟩ := h.1 d
    exact ⟨h0, h1, h2, h3, h4, h5, hu⟩
  · refine (θ_run (Cert.ReferenceIdeal.defs (F := Ideal)) _ _).mono (fun r h d => ?_) (Cert.ReferenceIdeal.Value.run (F := Ideal) m' g')
    obtain ⟨h0, h1, h2, h3, h4, h5, hu⟩ := h d
    obtain ⟨a0, a1, a2, a3, a4, a5, a6, a7, a8⟩ := heq d
    obtain ⟨sG, sQ⟩ := starts_nonneg hpre d
    exact ⟨h0.trans (agrees a2 a5 a0 a3 sG), h1.trans (agrees a2 a5 a1 a4 sG), h2.trans (congrArg₂ addi a5 a2),
      h3.trans (agrees a2 a8 a0 a6 sQ), h4.trans (agrees a2 a8 a1 a7 sQ), h5.trans (congrArg₂ addi a8 a2), hu⟩

theorem claim : Cert.Claim :=
  ⟨Cert.Kernel.Gen.facts, Cert.KernelIdeal.Gen.facts, Cert.ReferenceIdeal.Gen.facts, {}, frame_kernel, frame_ideal,
    fun m g _ => frame_ideal m g trivial, frame_reference, fun m g _ => frame_reference m g trivial, trivial, @algebraic {}⟩

end Cert.Proof

end
